-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_x_is_finite_KernelIdeal [hPre_x_is_finite_KernelIdeal : Cert.Pre_x_is_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_x_is_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_x_is_finite_ReferenceIdeal [hPre_x_is_finite_ReferenceIdeal : Cert.Pre_x_is_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_x_is_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_x_is_finite_KernelIdeal [hKernelIdeal : Cert.KernelIdeal.Facts] [hPre_x_is_finite_KernelIdeal : Cert.Pre_x_is_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_x_is_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_x_is_finite_ReferenceIdeal [hReferenceIdeal : Cert.ReferenceIdeal.Facts] [hPre_x_is_finite_ReferenceIdeal : Cert.Pre_x_is_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_x_is_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_x_is_finite_KernelIdeal [hKernelIdeal : Cert.KernelIdeal.Facts] [hReferenceIdeal : Cert.ReferenceIdeal.Facts] [hPre_x_is_finite_KernelIdeal : Cert.Pre_x_is_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_x_is_finite_KernelIdeal m →
    (∀ c : Dev Cert.KernelIdeal.nD,
      m ((c.tc : Thread Cert.KernelIdeal.nD Cert.KernelIdeal.τ).loc Cert.KernelIdeal.main_arg0) = Layout.block ⟨3, ![4, 1024, 256]⟩ ⟨3, ![4, 1024, 2048]⟩ 2 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![128, 256]⟩ ⟨2, ![128, 2048]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![128, 256]⟩ ⟨2, ![128, 2048]⟩ 1 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![4, 1024, 256]⟩ ⟨3, ![4, 1024, 2048]⟩ 2 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v21) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_x_is_finite_KernelIdeal : Cert.Pre_x_is_finite_KernelIdeal.Facts) (hPre_x_is_finite_ReferenceIdeal : Cert.Pre_x_is_finite_ReferenceIdeal.Facts),
    quiescent_Kernel (hKernel := hKernel)
    ∧ quiescent_KernelIdeal (hKernelIdeal := hKernelIdeal)
    ∧ quiescent_KernelIdeal_pre_x_is_finite_KernelIdeal (hKernelIdeal := hKernelIdeal) (hPre_x_is_finite_KernelIdeal := hPre_x_is_finite_KernelIdeal)
    ∧ quiescent_ReferenceIdeal (hReferenceIdeal := hReferenceIdeal)
    ∧ quiescent_ReferenceIdeal_pre_x_is_finite_ReferenceIdeal (hReferenceIdeal := hReferenceIdeal) (hPre_x_is_finite_ReferenceIdeal := hPre_x_is_finite_ReferenceIdeal)
    ∧ preserves_Kernel_KernelIdeal
    ∧ algebraic_KernelIdeal_ReferenceIdeal_pre_x_is_finite_KernelIdeal (hKernelIdeal := hKernelIdeal) (hReferenceIdeal := hReferenceIdeal) (hPre_x_is_finite_KernelIdeal := hPre_x_is_finite_KernelIdeal)
-- ==== Pre_x_is_finite_KernelIdeal.lean ====
abbrev S4x1024x256 : Shape := ⟨3, ![4, 1024, 256]⟩
abbrev S4x128 : Shape := ⟨2, ![4, 128]⟩
abbrev S128x256 : Shape := ⟨2, ![128, 256]⟩
abbrev S_ : Shape := ⟨0, ![]⟩

class Facts : Prop where
  bcast_S_S4x1024x256 : S_.BroadcastsInDim S4x1024x256 (![] : Fin 0 → Fin S4x1024x256.rank)

variable [Facts]

def fn {F : FTy → Type} [FloatOps F] (main_arg0 : FVec F S4x1024x256 .f32) (main_arg1 : FVec F S4x128 .f32) (main_arg2 : FVec F S128x256 .f32) (main_arg3 : FVec F S128x256 .f32) : IVec S4x1024x256 1 :=
  let main_v0 : FVec F S4x1024x256 .f32 := Host.absf main_arg0
  let main_cst : FVec F S_ .f32 := constant S_ .f32 0x7F800000#32
  let main_v1 : FVec F S4x1024x256 .f32 := broadcastInDim S4x1024x256 ![] bcast_S_S4x1024x256 main_cst
  let main_v2 : IVec S4x1024x256 1 := cmpf .olt main_v0 main_v1
  main_v2
-- ==== Pre_x_is_finite_ReferenceIdeal.lean ====
abbrev S4x1024x2048 : Shape := ⟨3, ![4, 1024, 2048]⟩
abbrev S4x128 : Shape := ⟨2, ![4, 128]⟩
abbrev S128x2048 : Shape := ⟨2, ![128, 2048]⟩
abbrev S_ : Shape := ⟨0, ![]⟩

class Facts : Prop where
  bcast_S_S4x1024x2048 : S_.BroadcastsInDim S4x1024x2048 (![] : Fin 0 → Fin S4x1024x2048.rank)

variable [Facts]

def fn {F : FTy → Type} [FloatOps F] (main_arg0 : FVec F S4x1024x2048 .f32) (main_arg1 : FVec F S4x128 .f32) (main_arg2 : FVec F S128x2048 .f32) (main_arg3 : FVec F S128x2048 .f32) : IVec S4x1024x2048 1 :=
  let main_v0 : FVec F S4x1024x2048 .f32 := Host.absf main_arg0
  let main_cst : FVec F S_ .f32 := constant S_ .f32 0x7F800000#32
  let main_v1 : FVec F S4x1024x2048 .f32 := broadcastInDim S4x1024x2048 ![] bcast_S_S4x1024x2048 main_cst
  let main_v2 : IVec S4x1024x2048 1 := cmpf .olt main_v0 main_v1
  main_v2
-- ==== Kernel.lean ====
abbrev S4x1024x256 : Shape := ⟨3, ![4, 1024, 256]⟩
abbrev S4x128 : Shape := ⟨2, ![4, 128]⟩
abbrev S128x256 : Shape := ⟨2, ![128, 256]⟩
abbrev S8x8x1024 : Shape := ⟨3, ![8, 8, 1024]⟩
abbrev S8 : Shape := ⟨1, ![8]⟩
abbrev S_ : Shape := ⟨0, ![]⟩
abbrev S4x1024 : Shape := ⟨2, ![4, 1024]⟩
abbrev S8x1024 : Shape := ⟨2, ![8, 1024]⟩
abbrev S1x8x1024 : Shape := ⟨3, ![1, 8, 1024]⟩
abbrev S1 : Shape := ⟨1, ![1]⟩
abbrev S4x256 : Shape := ⟨2, ![4, 256]⟩
abbrev S4x1024x1 : Shape := ⟨3, ![4, 1024, 1]⟩
abbrev S4x1x256 : Shape := ⟨3, ![4, 1, 256]⟩

abbrev nBuf : Space → Nat
  | .hbm => 5
  | .vmem => 6
  | .smem => 0
  | _ => 0

abbrev bufTy : (tb : Table) → Fin (tcTables nBuf tb) → BufTy
  | .hbm, ⟨0, _⟩ => ⟨S4x1024x256, .f32⟩
  | .hbm, ⟨1, _⟩ => ⟨S4x128, .f32⟩
  | .hbm, ⟨2, _⟩ => ⟨S128x256, .f32⟩
  | .hbm, ⟨3, _⟩ => ⟨S128x256, .f32⟩
  | .hbm, ⟨4, _⟩ => ⟨S4x1024x256, .f32⟩
  | .local _ .vmem, ⟨0, _⟩ => ⟨S4x1024x256, .f32⟩
  | .local _ .vmem, ⟨1, _⟩ => ⟨S4x128, .f32⟩
  | .local _ .vmem, ⟨2, _⟩ => ⟨S128x256, .f32⟩
  | .local _ .vmem, ⟨3, _⟩ => ⟨S128x256, .f32⟩
  | .local _ .vmem, ⟨4, _⟩ => ⟨S4x1024x256, .f32⟩
  | .local _ .vmem, ⟨5, _⟩ => ⟨S8x8x1024, .f32⟩
  | _, _ => ⟨S4x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  (ofTc nBuf bufTy 1 21 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v38 : Index := Scalar.indexCast v2
  let c0_32 : Index := 0#32
  let c0_33 : Index := 0#32
  ![v38.toNat, 0, 0]
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_40 : BitVec 32 := 0#32
  let c0_i32_41 : BitVec 32 := 0#32
  ![v2.toNat, 0, 0]
def k0_dev8 (d0 : Dev nD) : Nat :=
  let c0_i32_39 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_34 : BitVec 32 := 1#32
  let v42 : BitVec 32 := Scalar.addi v2 c1_i32_34
  let c8_i32_35 : BitVec 32 := 8#32
  let v43 : BitVec 32 := Scalar.remsi v42 c8_i32_35
  let c1_i32_38 : BitVec 32 := 1#32
  let v44 : BitVec 32 := Scalar.muli v43 c1_i32_38
  let v45 : BitVec 32 := Scalar.addi c0_i32_39 v44
  v45.toNat
def k0_dev9 (d0 : Dev nD) : Nat :=
  let c0_i32_49 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_44 : BitVec 32 := 2#32
  let v54 : BitVec 32 := Scalar.addi v2 c2_i32_44
  let c8_i32_45 : BitVec 32 := 8#32
  let v55 : BitVec 32 := Scalar.remsi v54 c8_i32_45
  let c1_i32_48 : BitVec 32 := 1#32
  let v56 : BitVec 32 := Scalar.muli v55 c1_i32_48
  let v57 : BitVec 32 := Scalar.addi c0_i32_49 v56
  v57.toNat
def k0_dev10 (d0 : Dev nD) : Nat :=
  let c0_i32_59 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_54 : BitVec 32 := 3#32
  let v66 : BitVec 32 := Scalar.addi v2 c3_i32_54
  let c8_i32_55 : BitVec 32 := 8#32
  let v67 : BitVec 32 := Scalar.remsi v66 c8_i32_55
  let c1_i32_58 : BitVec 32 := 1#32
  let v68 : BitVec 32 := Scalar.muli v67 c1_i32_58
  let v69 : BitVec 32 := Scalar.addi c0_i32_59 v68
  v69.toNat
def k0_dev11 (d0 : Dev nD) : Nat :=
  let c0_i32_69 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_64 : BitVec 32 := 4#32
  let v78 : BitVec 32 := Scalar.addi v2 c4_i32_64
  let c8_i32_65 : BitVec 32 := 8#32
  let v79 : BitVec 32 := Scalar.remsi v78 c8_i32_65
  let c1_i32_68 : BitVec 32 := 1#32
  let v80 : BitVec 32 := Scalar.muli v79 c1_i32_68
  let v81 : BitVec 32 := Scalar.addi c0_i32_69 v80
  v81.toNat
def k0_dev12 (d0 : Dev nD) : Nat :=
  let c0_i32_79 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_74 : BitVec 32 := 5#32
  let v90 : BitVec 32 := Scalar.addi v2 c5_i32_74
  let c8_i32_75 : BitVec 32 := 8#32
  let v91 : BitVec 32 := Scalar.remsi v90 c8_i32_75
  let c1_i32_78 : BitVec 32 := 1#32
  let v92 : BitVec 32 := Scalar.muli v91 c1_i32_78
  let v93 : BitVec 32 := Scalar.addi c0_i32_79 v92
  v93.toNat
def k0_dev13 (d0 : Dev nD) : Nat :=
  let c0_i32_89 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_84 : BitVec 32 := 6#32
  let v102 : BitVec 32 := Scalar.addi v2 c6_i32_84
  let c8_i32_85 : BitVec 32 := 8#32
  let v103 : BitVec 32 := Scalar.remsi v102 c8_i32_85
  let c1_i32_88 : BitVec 32 := 1#32
  let v104 : BitVec 32 := Scalar.muli v103 c1_i32_88
  let v105 : BitVec 32 := Scalar.addi c0_i32_89 v104
  v105.toNat
def k0_dev14 (d0 : Dev nD) : Nat :=
  let c0_i32_99 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_94 : BitVec 32 := 7#32
  let v114 : BitVec 32 := Scalar.addi v2 c7_i32_94
  let c8_i32_95 : BitVec 32 := 8#32
  let v115 : BitVec 32 := Scalar.remsi v114 c8_i32_95
  let c1_i32_98 : BitVec 32 := 1#32
  let v116 : BitVec 32 := Scalar.muli v115 c1_i32_98
  let v117 : BitVec 32 := Scalar.addi c0_i32_99 v116
  v117.toNat
abbrev stage0_0 : Fin 1 → Memref sig .tc .vmem S4x1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4x1024x2048 : Shape := ⟨3, ![4, 1024, 2048]⟩
abbrev S4x128 : Shape := ⟨2, ![4, 128]⟩
abbrev S128x2048 : Shape := ⟨2, ![128, 2048]⟩
abbrev S_ : Shape := ⟨0, ![]⟩
abbrev S4x1024 : Shape := ⟨2, ![4, 1024]⟩
abbrev S4x1024x1 : Shape := ⟨3, ![4, 1024, 1]⟩
abbrev S4x2048 : Shape := ⟨2, ![4, 2048]⟩
abbrev S4x1x2048 : Shape := ⟨3, ![4, 1, 2048]⟩

abbrev nBuf : Space → Nat
  | .hbm => 53
  | .vmem => 0
  | .smem => 0
  | _ => 0

abbrev bufTy : (tb : Table) → Fin (tcTables nBuf tb) → BufTy
  | .hbm, ⟨0, _⟩ => ⟨S4x1024x2048, .f32⟩
  | .hbm, ⟨1, _⟩ => ⟨S4x128, .f32⟩
  | .hbm, ⟨2, _⟩ => ⟨S128x2048, .f32⟩
  | .hbm, ⟨3, _⟩ => ⟨S128x2048, .f32⟩
  | .hbm, ⟨4, _⟩ => ⟨S_, .f32⟩
  | .hbm, ⟨5, _⟩ => ⟨S4x1024, .f32⟩
  | .hbm, ⟨6, _⟩ => ⟨S4x1024x1, .f32⟩
  | .hbm, ⟨7, _⟩ => ⟨S_, .f32⟩
  | .hbm, ⟨8, _⟩ => ⟨S4x1024x1, .f32⟩
  | .hbm, ⟨9, _⟩ => ⟨S4x1024x1, .f32⟩
  | .hbm, ⟨10, _⟩ => ⟨S_, .i32⟩
  | .hbm, ⟨11, _⟩ => ⟨S_, .f32⟩
  | .hbm, ⟨12, _⟩ => ⟨S4x1024, .f32⟩
  | .hbm, ⟨13, _⟩ => ⟨S4x1024x1, .f32⟩
  | .hbm, ⟨14, _⟩ => ⟨S_, .f32⟩
  | .hbm, ⟨15, _⟩ => ⟨S4x1024x1, .f32⟩
  | .hbm, ⟨16, _⟩ => ⟨S4x1024x1, .f32⟩
  | .hbm, ⟨17, _⟩ => ⟨S4x1024x2048, .f32⟩
  | .hbm, ⟨18, _⟩ => ⟨S4x1024x2048, .f32⟩
  | .hbm, ⟨19, _⟩ => ⟨S4x1024x2048, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S4x1024, .f32⟩
  | .hbm, ⟨25, _⟩ => ⟨S4x1024x1, .f32⟩
  | .hbm, ⟨26, _⟩ => ⟨S4x1024x1, .f32⟩
  | .hbm, ⟨27, _⟩ => ⟨S4x1024x1, .f32⟩
  | .hbm, ⟨28, _⟩ => ⟨S_, .f32⟩
  | .hbm, ⟨29, _⟩ => ⟨S_, .i1⟩
  | .hbm, ⟨30, _⟩ => ⟨S_, .f32⟩
  | .hbm, ⟨31, _⟩ => ⟨S_, .f32⟩
  | .hbm, ⟨32, _⟩ => ⟨S4x1024x1, .f32⟩
  | .hbm, ⟨33, _⟩ => ⟨S4x1024x1, .f32⟩
  | .hbm, ⟨34, _⟩ => ⟨S4x1024x2048, .f32⟩
  | .hbm, ⟨35, _⟩ => ⟨S4x1024x2048, .f32⟩
  | .hbm, ⟨36, _⟩ => ⟨S_, .f32⟩
  | .hbm, ⟨37, _⟩ => ⟨S4x1024x1, .f32⟩
  | .hbm, ⟨38, _⟩ => ⟨S4x1024x1, .f32⟩
  | .hbm, ⟨39, _⟩ => ⟨S4x1024x1, .f32⟩
  | .hbm, ⟨40, _⟩ => ⟨S4x1024x2048, .f32⟩
  | .hbm, ⟨41, _⟩ => ⟨S4x1024x2048, .f32⟩
  | .hbm, ⟨42, _⟩ => ⟨S4x2048, .f32⟩
  | .hbm, ⟨43, _⟩ => ⟨S4x2048, .f32⟩
  | .hbm, ⟨44, _⟩ => ⟨S4x1x2048, .f32⟩
  | .hbm, ⟨45, _⟩ => ⟨S_, .f32⟩
  | .hbm, ⟨46, _⟩ => ⟨S4x1x2048, .f32⟩
  | .hbm, ⟨47, _⟩ => ⟨S4x1x2048, .f32⟩
  | .hbm, ⟨48, _⟩ => ⟨S4x1024x2048, .f32⟩
  | .hbm, ⟨49, _⟩ => ⟨S4x1024x2048, .f32⟩
  | .hbm, ⟨50, _⟩ => ⟨S4x1x2048, .f32⟩
  | .hbm, ⟨51, _⟩ => ⟨S4x1024x2048, .f32⟩
  | .hbm, ⟨52, _⟩ => ⟨S4x1024x2048, .f32⟩
  | _, _ => ⟨S4x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_cst_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_cst_1 : Ref sig .tc := ⟨.hbm, 21, rfl⟩
abbrev main_call0_v8 : Ref sig .tc := ⟨.hbm, 22, rfl⟩
abbrev main_call0_cst_2 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_cst_3 : Ref sig .tc := ⟨.hbm, 28, rfl⟩
abbrev main_call0_v13 : Ref sig .tc := ⟨.hbm, 29, rfl⟩
abbrev main_call0_cst_4 : Ref sig .tc := ⟨.hbm, 30, rfl⟩
abbrev main_call0_call0_v0 : Ref sig .tc := ⟨.hbm, 31, rfl⟩
abbrev main_call0_call0_v1 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_cst_1 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst_2 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩

abbrev nD : Nat := 1
abbrev τ : Topo := Topo.v7x

variable {F : FTy → Type} [FloatOps F]
-- ==== Proof.Protocol.lean ====
/-
# The exchange of row statistics on eight devices

Every device `c` holds a scratch buffer of eight slots. It puts the two row statistics of its own block of channels into
slot `c` and copies that slot into slot `c` of each of the seven others. `k : Fin 7` numbers the distances: distance
`k + 1` leads from `c` to `dn k c`, and from `up k c` to `c`.

| cell of device `c`    | who adds to it                        | who waits            | what an addition hands over                       |
|-----------------------|---------------------------------------|----------------------|---------------------------------------------------|
| the barrier           | each `up k c`, one unit               | `c`, for seven units | slot `c` of `up k c`'s buffer, at any contents      |
| receive, index `k + 1` | the copy from `up k c`, a slot's credit | `c`                  | slot `up k c` of `c`'s buffer with `up k c`'s statistics |
| send, index `k + 1`    | `c`'s own copy to `dn k c`, as much     | `c`                  | the part of slot `c` the copy read                |

A copy into a neighbour is thus started only once that neighbour has said, through the barrier, that it has entered the
kernel. One function `comm` says what every slot of every device holds at the end: slot `j` the statistics of device `j`.
Levels: a barrier below the receive cells, the send cells and the staging cells below both.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Rounds.Family
public import Idealize.ShloMosaic.Lib.Transfers
public import Idealize.ShloMosaic.Lib.ViewIndex
public import Idealize.ShloMosaic.Lib.Pipeline.ValueKit.Geometry
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The neighbours -/

set_option backward.proofsInPublic true in
/-- The device at distance `k + 1` after `c`. -/
def dn (k : Fin 7) (c : Dev nD) : Dev nD := ⟨(c.val + (k.val + 1)) % 8, Nat.mod_lt _ (by decide)⟩
set_option backward.proofsInPublic true in
/-- The device at distance `k + 1` before `c`. -/
def up (k : Fin 7) (c : Dev nD) : Dev nD := ⟨(c.val + (7 - k.val)) % 8, Nat.mod_lt _ (by decide)⟩

theorem up_dn : ∀ (k : Fin 7) (c : Dev nD), up k (dn k c) = c := by decide
theorem dn_up : ∀ (k : Fin 7) (c : Dev nD), dn k (up k c) = c := by decide
theorem dn_injective : ∀ c : Dev nD, Function.Injective fun k => dn k c := by decide
theorem up_injective : ∀ c : Dev nD, Function.Injective fun k => up k c := by decide
/-- Either way round, the seven neighbours are the seven others. -/
theorem others_dn : ∀ c : Dev nD, Finset.univ.erase c = Finset.univ.map ⟨fun k => dn k c, dn_injective c⟩ := by decide
theorem others_up : ∀ c : Dev nD, Finset.univ.erase c = Finset.univ.map ⟨fun k => up k c, up_injective c⟩ := by decide

/-- The step by distance `k + 1` as a permutation of the devices. -/
def turn (k : Fin 7) : Dev nD ≃ Dev nD := ⟨dn k, up k, up_dn k, dn_up k⟩

/-! ## The memrefs and the cells -/

abbrev xM : Memref sig .tc .vmem S4x1024x256 .f32 := Memref.whole cc0_stg0_0
abbrev tM : Memref sig .tc .vmem S4x128 .f32 := Memref.whole cc0_stg1_0
abbrev aM : Memref sig .tc .vmem S128x256 .f32 := Memref.whole cc0_stg2_0
abbrev bM : Memref sig .tc .vmem S128x256 .f32 := Memref.whole cc0_stg3_0
abbrev oM : Memref sig .tc .vmem S4x1024x256 .f32 := Memref.whole cc0_stg4_0
abbrev rM : Memref sig .tc .vmem S8x8x1024 .f32 := Memref.whole cc0_scratch0

/-- Slot `j` of the scratch buffer as the copies name it. -/
abbrev slot (j : Dev nD) : Memref sig .tc .vmem S8x1024 .f32 :=
  (rM.slice (Rect.unit (s := S8x8x1024) (k0_off2 j) S1x8x1024.size (k0_off2_inb j)) (fun _ => rfl)).squeeze S8x1024 squeezes_S1x8x1024_S8x1024
/-- The rectangle of slot `j` as the store names it. -/
abbrev slotR (j : Dev nD) : Rect S8x8x1024 := Rect.unit (s := S8x8x1024) (k0_off1 j) S1x8x1024.size (k0_off1_inb j)

abbrev barS : Sem sig := (SemArray.scalar (sig.barrier 0 rfl) : Sems sig S_).sem
set_option backward.proofsInPublic true in
/-- The DMA semaphores by array and index: `false` the send array's, `true` the receive array's. -/
def dsem (bj : Bool × Fin 8) : DmaSem sig := ⟨(if bj.1 then 13 else 5) + bj.2.val, by
  have : (if bj.1 then 13 else 5) ≤ 13 := by split <;> decide
  show _ < 21; omega⟩
abbrev sndS (k : Fin 7) : DmaSem sig := dsem (false, k.succ)
abbrev rcvS (k : Fin 7) : DmaSem sig := dsem (true, k.succ)

/-- The kernel's own semaphores, -/
abbrev osem : Bool × Fin 8 → SemLoc sig := fun bj => .dma (dsem bj)
/-- and with the barrier all that the exchange uses. -/
def csem : Option (Bool × Fin 8) → SemLoc sig := fun | none => .reg barS | some bj => osem bj

abbrev CK : Type := Option (Bool × Fin 8)
abbrev kcell (ck : Dev nD × CK) : GSem nD τ sig := ((ck.1 : Thread nD τ), csem ck.2)
abbrev barCell (c : Dev nD) : GSem nD τ sig := ((c : Thread nD τ), .reg barS)
abbrev sndCell (c : Dev nD) (k : Fin 7) : GSem nD τ sig := ((c : Thread nD τ), .dma (sndS k))
abbrev rcvCell (c : Dev nD) (k : Fin 7) : GSem nD τ sig := ((c : Thread nD τ), .dma (rcvS k))

theorem dsem_injective : Function.Injective dsem := by decide

/-- Element `i` of an array of eight semaphores, picked as the kernel's text picks it: a slice of one, squeezed. -/
theorem pick_val (base : ℕ) (h : base + S8.numel ≤ 21) (i : ℕ) (inb) :
    ((((SemArray.consecutive base S8 h : SemArray (Fin 21) S8).slice (Rect.unit (s := S8) ![i] S1.size inb)).squeeze S_ squeezes_S1_S_).sem).val
      = base + i := by
  show base + (S8.rowMajor _).val = base + i
  rw [Shape.rowMajor_val_one, ValueKit.rect_emb_unit_val]
  generalize Shape.reshapeEquiv _ _ = y
  have hy : (y 0).val < 1 := (y 0).isLt
  show base + (i + (y 0).val) = base + i
  omega
theorem snd_pick (k : Fin 7) (i : ℕ) (hi : i = k.val + 1) (inb) :
    ((cc0_scratch1.slice (Rect.unit (s := S8) ![i] S1.size inb)).squeeze S_ squeezes_S1_S_).sem = sndS k :=
  Fin.ext ((pick_val 5 _ i inb).trans (by rw [hi]; rfl))
theorem rcv_pick (k : Fin 7) (i : ℕ) (hi : i = k.val + 1) (inb) :
    ((cc0_scratch2.slice (Rect.unit (s := S8) ![i] S1.size inb)).squeeze S_ squeezes_S1_S_).sem = rcvS k :=
  Fin.ext ((pick_val 13 _ i inb).trans (by rw [hi]; rfl))

/-- A slot's credit. -/
abbrev N : ℕ := (slot 0).view.dmaCredit
theorem N_pos : 0 < N := View.dmaCredit_pos _ (by decide)
theorem slot_credit (j : Dev nD) : (slot j).view.dmaCredit = N := rfl
theorem slot_amount (j : Dev nD) (s : DmaSem sig) : (slot j).view.amount (.dma s) = N := rfl

/-! ## The slots of the scratch buffer -/

/-- Slot `j` is the elements whose first coordinate is `j`, by either of its names; -/
theorem mem_slab {off : Fin 3 → ℕ} (j : Dev nD) (hoff : off = ![j.val, 0, 0]) (inb) (i : S8x8x1024.Idx) :
    i ∈ (Rect.unit (s := S8x8x1024) off S1x8x1024.size inb).set ↔ (i 0).val = j.val := by
  subst hoff
  rw [Rect.mem_set_unit]
  constructor
  · intro h
    have h0 : j.val ≤ (i 0).val ∧ (i 0).val < j.val + 1 := h 0
    omega
  · intro h a
    have h1 : (i 1).val < 8 := (i 1).isLt
    have h2 : (i 2).val < 1024 := (i 2).isLt
    match a with
    | ⟨0, _⟩ => exact ⟨h.ge, show (i 0).val < j.val + 1 by omega⟩
    | ⟨1, _⟩ => exact ⟨Nat.zero_le _, show (i 1).val < 0 + 8 by omega⟩
    | ⟨2, _⟩ => exact ⟨Nat.zero_le _, show (i 2).val < 0 + 1024 by omega⟩
theorem mem_slot (j : Dev nD) (i : S8x8x1024.Idx) : i ∈ (slot j).view.set ↔ (i 0).val = j.val := by
  rw [show (slot j).view.set = (Rect.unit (s := S8x8x1024) (k0_off2 j) S1x8x1024.size (k0_off2_inb j)).set from
    (View.set_reshape _ _).trans (View.set_slice_whole cc0_scratch0 _)]
  exact mem_slab j (k0_off2_eq j) _ i
theorem mem_access (j : Dev nD) (i : S8x8x1024.Idx) : i ∈ (rM.access (slotR j)).set ↔ (i 0).val = j.val := by
  rw [show (rM.access (slotR j)).set = (slotR j).set from View.set_slice_whole cc0_scratch0 _]
  exact mem_slab j (k0_off1_eq j) _ i
theorem access_set (j : Dev nD) : (rM.access (slotR j)).set = (slot j).view.set :=
  Finset.ext fun i => (mem_access j i).trans (mem_slot j i).symm
/-- the slots are disjoint and make up the buffer. -/
theorem slot_disjoint (j j' : Dev nD) (h : j ≠ j') : Disjoint (slot j).view.set (slot j').view.set :=
  Finset.disjoint_left.mpr fun i hi hi' => h (Fin.ext (((mem_slot j i).mp hi).symm.trans ((mem_slot j' i).mp hi')))
theorem slot_cover : Finset.biUnion (β := S8x8x1024.Idx) Finset.univ (fun j : Dev nD => (slot j).view.set) = Finset.univ :=
  Finset.eq_univ_iff_forall.mpr fun i => Finset.mem_biUnion.mpr ⟨⟨(i 0).val, (i 0).isLt⟩, Finset.mem_univ _, (mem_slot _ i).mpr rfl⟩

/-! ## Contents -/

variable {F : FTy → Type} [FloatOps F]

abbrev UX : Type := URounds (GSem nD τ sig) (Fin 7)
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

variable (m : (ℓ : Loc nD τ sig) → Buf (Elt F) ℓ)

/-- The staged copies of device `c`'s four arguments. -/
def xs (c : Dev nD) : (cc0_stg0_0 : Ref sig .tc).ty.Contents (Elt F) := (win0_0.blk (0 : Fin 1)).view.read (Elt F) (m ((c : Thread nD τ).loc main_arg0))
def ts (c : Dev nD) : (cc0_stg1_0 : Ref sig .tc).ty.Contents (Elt F) := (win0_1.blk (0 : Fin 1)).view.read (Elt F) (m ((c : Thread nD τ).loc main_arg1))
def wa (c : Dev nD) : (cc0_stg2_0 : Ref sig .tc).ty.Contents (Elt F) := (win0_2.blk (0 : Fin 1)).view.read (Elt F) (m ((c : Thread nD τ).loc main_arg2))
def wb (c : Dev nD) : (cc0_stg3_0 : Ref sig .tc).ty.Contents (Elt F) := (win0_3.blk (0 : Fin 1)).view.read (Elt F) (m ((c : Thread nD τ).loc main_arg3))

/-- A buffer index as an index of the slot it lies in. -/
def inSlot (i : S8x8x1024.Idx) : S1x8x1024.Idx := fun a => match a with
  | ⟨0, _⟩ => (⟨0, Nat.one_pos⟩ : Fin 1)
  | ⟨1, _⟩ => (i 1 : Fin 8)
  | ⟨2, _⟩ => (i 2 : Fin 1024)

/-- What the exchange fills every scratch buffer with: slot `j` is device `j`'s row statistics. -/
def comm : (cc0_scratch0 : Ref sig .tc).ty.Contents (Elt F) := fun i => k0_pay2 (xs m (show Dev nD from i 0)) (inSlot i)

/-- Storing device `c`'s statistics into slot `c` makes that slot what `comm` says. -/
theorem store_comm (c : Dev nD) (f : (cc0_scratch0 : Ref sig .tc).ty.Contents (Elt F)) (i) (hi : i ∈ (slot c).view.set) :
    (rM.access (slotR c)).write (Elt F) f (k0_pay2 (xs m c)) Finset.univ i = comm m i := by
  rw [← access_set] at hi
  obtain ⟨x, -, rfl⟩ := Finset.mem_map.mp hi
  rw [View.write_emb_of_mem _ _ (Finset.mem_univ _)]
  have e (a : Fin 3) : (((rM.access (slotR c)).emb x a : Fin _) : ℕ) = (![c.val, 0, 0] : Fin 3 → ℕ) a + (x a).val :=
    (ValueKit.view_emb_slice_whole_unit_val cc0_scratch0 (k0_off1 c) S1x8x1024.size (k0_off1_inb c) x a).trans
      (congrArg (· + (x a).val) (congrFun (k0_off1_eq c) a))
  have x0 : (x 0).val < 1 := (x 0).isLt
  show k0_pay2 (xs m c) x = k0_pay2 (xs m (show Dev nD from (rM.access (slotR c)).emb x 0)) (inSlot ((rM.access (slotR c)).emb x))
  rw [show (show Dev nD from (rM.access (slotR c)).emb x 0) = c from Fin.ext ((e 0).trans (show c.val + (x 0).val = c.val by omega)),
    show inSlot ((rM.access (slotR c)).emb x) = x from Shape.idx3_ext (show 0 = (x 0).val by omega)
      ((e 1).trans (Nat.zero_add _)) ((e 2).trans (Nat.zero_add _))]

omit [FloatOps F] in
/-- A slot copied whole onto the same slot of another buffer is there what it was here. -/
theorem copy_slot (j : Dev nD) (f g : (cc0_scratch0 : Ref sig .tc).ty.Contents (Elt F)) (i) (hi : i ∈ (slot j).view.set) :
    (slot j).view.write (Elt F) f ((slot j).view.read (Elt F) g) Finset.univ i = g i := by
  obtain ⟨x, -, rfl⟩ := Finset.mem_map.mp hi
  exact View.eq_of_read_eq (congrFun (View.read_write_univ (v := (slot j).view) (Val := Elt F) f _) x)

/-- Slot `j` of device `c`'s scratch buffer, the share `q` of it, at contents `f`. -/
def slotAt (c j : Dev nD) (q : PosShare TreeShare) (f : Buf (Elt F) ((c : Thread nD τ).loc cc0_scratch0)) : sProp 𝕄 :=
  (slot j).view.loc (c : Thread nD τ) ↦[(slot j).view.set]{q} f

omit [FloatOps F] in
instance slotAt_storable (c j : Dev nD) (q) (f) : BI.Storable (upEmb : UEmb _ 𝕄) (slotAt (F := F) c j q f) := by unfold slotAt; infer_instance

omit [FloatOps F] in
theorem slotAt_congr (c j : Dev nD) (q) (f g : Buf (Elt F) ((c : Thread nD τ).loc cc0_scratch0)) (h : ∀ i ∈ (slot j).view.set, f i = g i) :
    slotAt c j q f = slotAt c j q g := pointsTo_congr h

/-! ## The schedule -/

/-- What `up k c`'s unit on `c`'s barrier hands over: slot `c` of its buffer. -/
def barPay (c : Dev nD) (k : Fin 7) : sProp 𝕄 := iprop(∃ f, slotAt (up k c) c fullShare f)
/-- What the copy from `up k c` hands over. -/
def rcvPay (c : Dev nD) (k : Fin 7) : sProp 𝕄 := slotAt c (up k c) fullShare (comm m)
/-- What the copy to `dn k c` gives back: the part of slot `c` it read. -/
def sndPay (c : Dev nD) (k : Fin 7) : sProp 𝕄 := slotAt c c (Transfers.shareTok fullShare 7 k) (comm m)

/-- What a DMA cell of device `c` hands over, by the semaphore. -/
def dmaPay (c : Dev nD) (s : DmaSem sig) (k : Fin 7) : sProp 𝕄 :=
  if s = rcvS k then rcvPay m c k else if s = sndS k then sndPay m c k else iprop(emp)

/-- One round, round 0: a barrier's seven duties of a unit each; a receive or send cell the one duty of its distance. -/
def exRd : Rounds.Schedule (GSem nD τ sig) (Fin 7) 𝕄 where
  duties g r := if r = 0 ∧ g.1.2 = .tc then
      (match g.2 with | .reg _ => Finset.univ | .dma s => Finset.univ.filter fun k => s = sndS k ∨ s = rcvS k) else ∅
  unitless _ := False
  amount g _ _ := match g.2 with | .reg _ => 1 | .dma _ => N
  payload g _ k := match g.2 with | .reg _ => barPay g.1.1 k | .dma s => dmaPay m g.1.1 s k
  amount_pos g _ _ _ := by
    rcases g with ⟨_, _ | _⟩
    · exact Nat.one_pos
    · exact N_pos

instance exRd_payload_storable (g : GSem nD τ sig) (r : ℕ) (d : Fin 7) :
    BI.Storable (upEmb : UEmb _ 𝕄) ((exRd (F := F) m).payload g r d) := by
  rcases g with ⟨t, _ | s⟩
  · show BI.Storable upEmb (barPay t.1 d); unfold barPay; infer_instance
  · show BI.Storable upEmb (dmaPay m t.1 s d); unfold dmaPay rcvPay sndPay
    (repeat' split) <;> infer_instance

section Sched
variable (c : Dev nD) (k : Fin 7)

theorem snd_only : ∀ k : Fin 7, (Finset.univ.filter fun k' => sndS k = sndS k' ∨ sndS k = rcvS k') = {k} := by decide
theorem rcv_only : ∀ k : Fin 7, (Finset.univ.filter fun k' => rcvS k = sndS k' ∨ rcvS k = rcvS k') = {k} := by decide
theorem spare_none : ∀ b : Bool, (Finset.univ.filter fun k => dsem (b, 0) = sndS k ∨ dsem (b, 0) = rcvS k) = ∅ := by decide
theorem snd_ne_rcv : ∀ k : Fin 7, sndS k ≠ rcvS k := by decide

theorem duties_bar : (exRd m).duties (barCell c) 0 = Finset.univ := by simp only [exRd, and_self, if_true]
theorem duties_snd : (exRd m).duties (sndCell c k) 0 = {k} := by simp only [exRd, and_self, if_true]; exact (snd_only k)
theorem duties_rcv : (exRd m).duties (rcvCell c k) 0 = {k} := by simp only [exRd, and_self, if_true]; exact (rcv_only k)
theorem duties_later (g : GSem nD τ sig) : ∀ r, 1 ≤ r → (exRd m).duties g r = ∅ := fun r hr => if_neg fun h => by omega
theorem duties_spare (b : Bool) : ∀ r, 0 ≤ r → (exRd m).duties ((c : Thread nD τ), .dma (dsem (b, 0))) r = ∅ := fun r _ => by
  by_cases h : r = 0
  · simp only [exRd, h, and_self, if_true]; exact spare_none b
  · exact if_neg fun h' => h h'.1

theorem expect_bar : (exRd m).expect (barCell c) 0 = 7 := by
  unfold Schedule.expect Schedule.amountOf
  rw [duties_bar, Finset.sum_congr rfl fun d _ => (rfl : (exRd m).amount (barCell c) 0 d = 1)]; rfl
theorem expect_snd : (exRd m).expect (sndCell c k) 0 = N := by
  unfold Schedule.expect Schedule.amountOf; rw [duties_snd, Finset.sum_singleton]; rfl
theorem expect_rcv : (exRd m).expect (rcvCell c k) 0 = N := by
  unfold Schedule.expect Schedule.amountOf; rw [duties_rcv, Finset.sum_singleton]; rfl

theorem amount_bar : (exRd m).amount (barCell c) 0 k = 1 := rfl
theorem amount_dma (s : DmaSem sig) : (exRd m).amount ((c : Thread nD τ), .dma s) 0 k = N := rfl
theorem payload_snd : (exRd m).payload (sndCell c k) 0 k = sndPay m c k := (if_neg (snd_ne_rcv k)).trans (if_pos rfl)
theorem payload_rcv : (exRd m).payload (rcvCell c k) 0 k = rcvPay m c k := if_pos rfl

/-- A round taken whole: what its duties hand over. -/
theorem rest_bar : bigSep ((exRd m).duties (barCell c) 0 \ ∅) (fun d => (exRd m).payload (barCell c) 0 d) = bigSep Finset.univ (barPay (F := F) c) := by
  rw [Finset.sdiff_empty, duties_bar]; rfl
theorem rest_snd : bigSep ((exRd m).duties (sndCell c k) 0 \ ∅) (fun d => (exRd m).payload (sndCell c k) 0 d) = sndPay m c k := by
  rw [Finset.sdiff_empty, duties_snd, bigSep_singleton, payload_snd]
theorem rest_rcv : bigSep ((exRd m).duties (rcvCell c k) 0 \ ∅) (fun d => (exRd m).payload (rcvCell c k) 0 d) = rcvPay m c k := by
  rw [Finset.sdiff_empty, duties_rcv, bigSep_singleton, payload_rcv]

end Sched

/-! ## What each device owes at launch, and the levels -/

/-- The distances from number `n` on: what is still to be done after `n` steps of a sequence over the distances. -/
def left (n : ℕ) : Finset (Fin 7) := Finset.univ.filter fun k => n ≤ k.val
theorem left_zero : left 0 = Finset.univ := Finset.filter_true_of_mem fun _ _ => Nat.zero_le _
theorem left_seven : left 7 = ∅ := by decide
theorem left_step (k : Fin 7) : left k.val = insert k (left (k.val + 1)) := by revert k; decide
theorem left_notMem (k : Fin 7) : k ∉ left (k.val + 1) := by revert k; decide

/-- The credits of the receive cells device `c` has yet to copy to, the distances from `n` on; -/
def Orcv (c : Dev nD) (n : ℕ) : CellTallies nD τ sig Unit := ∑ k ∈ left n, tallyAt (rcvCell (dn k c) k) () N
/-- the units of the barriers it has yet to signal. -/
def Obar (c : Dev nD) (n : ℕ) : CellTallies nD τ sig Unit := ∑ k ∈ left n, tallyAt (barCell (dn k c)) () 1
/-- What device `c` owes at launch. -/
def O₀ (c : Dev nD) : CellTallies nD τ sig Unit := Orcv c 0 + Obar c 0

theorem Orcv_step (c : Dev nD) (k : Fin 7) : Orcv c k.val = Orcv c (k.val + 1) + tallyAt (rcvCell (dn k c) k) () N := by
  unfold Orcv; rw [left_step, Finset.sum_insert (left_notMem k), add_comm]
theorem Obar_step (c : Dev nD) (k : Fin 7) : Obar c k.val = Obar c (k.val + 1) + tallyAt (barCell (dn k c)) () 1 := by
  unfold Obar; rw [left_step, Finset.sum_insert (left_notMem k), add_comm]
theorem Orcv_seven (c : Dev nD) : Orcv c 7 = 0 := by unfold Orcv; rw [left_seven, Finset.sum_empty]
theorem Obar_seven (c : Dev nD) : Obar c 7 = 0 := by unfold Obar; rw [left_seven, Finset.sum_empty]

/-- A sum of tallies at one cell. -/
theorem sum_tally_apply {ι : Type} (S : Finset ι) (T : ι → CellTallies nD τ sig Unit) (g : GSem nD τ sig) (u : Unit) :
    (∑ k ∈ S, T k) g u = ∑ k ∈ S, T k g u := by
  classical
  induction S using Finset.induction_on with
  | empty => rfl
  | insert a S ha ih => rw [Finset.sum_insert ha, Finset.sum_insert ha, Pi.add_apply, Finsupp.add_apply, ih]

theorem Orcv_pos {c : Dev nD} {n : ℕ} {g : GSem nD τ sig} {u : Unit} (h : 0 < Orcv c n g u) : ∃ k, g = rcvCell (dn k c) k := by
  unfold Orcv at h
  rw [sum_tally_apply] at h
  obtain ⟨k, -, hk⟩ := Finset.exists_ne_zero_of_sum_ne_zero h.ne'
  rw [tallyAt_apply] at hk
  exact ⟨k, (ite_ne_right_iff.mp hk).1.1⟩
theorem Obar_pos {c : Dev nD} {n : ℕ} {g : GSem nD τ sig} {u : Unit} (h : 0 < Obar c n g u) : ∃ k, g = barCell (dn k c) := by
  unfold Obar at h
  rw [sum_tally_apply] at h
  obtain ⟨k, -, hk⟩ := Finset.exists_ne_zero_of_sum_ne_zero h.ne'
  rw [tallyAt_apply] at hk
  exact ⟨k, (ite_ne_right_iff.mp hk).1.1⟩

def L (g : GSem nD τ sig) : Finset Unit := if g.1.2 = .tc then {()} else ∅
/-- A barrier at 1, a DMA cell of the receive array at 2, every other at 0. -/
def lv (g : GSem nD τ sig) (_ : Unit) : ℕ := match g.2 with | .reg _ => 1 | .dma s => if 13 ≤ s.val then 2 else 0

theorem L_of_ne (g : GSem nD τ sig) (h : g.1.2 ≠ .tc) : L g = ∅ := if_neg h
theorem L_tc (c : Dev nD) (sm : SemLoc sig) : () ∈ L ((c : Thread nD τ), sm) := by
  unfold L; rw [if_pos rfl]; exact Finset.mem_singleton_self _
theorem lv_rcv (c : Dev nD) (k : Fin 7) (u : Unit) : lv (rcvCell c k) u = 2 := if_pos (Nat.le_add_right 13 _)

omit [FloatOps F] in
/-- A staging cell may be waited on whatever of the exchange is owed; -/
theorem mayWait_low (c : Dev nD) (s : DmaSem sig) (hs : s.val < 13) :
    (levAts L lv : sProp 𝕄) ⊢ MayWait (c : Thread nD τ) (.dma s) () (O₀ c) := by
  have hpos {g : GSem nD τ sig} {u : Unit} (h : 0 < O₀ c g u) : (∃ k, g = rcvCell (dn k c) k) ∨ ∃ k, g = barCell (dn k c) := by
    unfold O₀ at h
    rw [Pi.add_apply, Finsupp.add_apply] at h
    rcases Nat.eq_zero_or_pos (Orcv c 0 g u) with h0 | h0
    · rw [h0, Nat.zero_add] at h; exact .inr (Obar_pos h)
    · exact .inl (Orcv_pos h0)
  refine MayOwe.of_cut (L := L) (lev := lv) 0 (fun p hp => by rw [Finset.mem_singleton.mp hp]; exact L_tc _ _) (fun g u hg => ?_)
    (fun p hp => by rw [Finset.mem_singleton.mp hp]; exact (if_neg (by omega)).le) (fun g u hg => ?_)
  · rcases hpos hg with ⟨k, rfl⟩ | ⟨k, rfl⟩ <;> exact L_tc _ _
  · rcases hpos hg with ⟨k, rfl⟩ | ⟨k, rfl⟩
    · rw [lv_rcv]; exact Nat.two_pos
    · exact Nat.one_pos

omit [FloatOps F] in
/-- and the barrier while only copies are owed. -/
theorem mayWait_bar (c : Dev nD) : (levAts L lv : sProp 𝕄) ⊢ MayWait (c : Thread nD τ) (.reg barS) () (Orcv c 0) := by
  refine MayOwe.of_cut (L := L) (lev := lv) 1 (fun p hp => by rw [Finset.mem_singleton.mp hp]; exact L_tc _ _) (fun g u hg => ?_)
    (fun p hp => by rw [Finset.mem_singleton.mp hp]; exact le_rfl) (fun g u hg => ?_)
  · obtain ⟨k, rfl⟩ := Orcv_pos hg; exact L_tc _ _
  · obtain ⟨k, rfl⟩ := Orcv_pos hg; rw [lv_rcv]; exact Nat.one_lt_two

end Cert.Exchange

end
-- ==== Proof.Body.lean ====
/-
# The kernel's body on one device

The body is run once, at a symbolic device `c`. Its state is a separating conjunction that moves through four phases:
signalling (`S1`), copying (`S2`), waiting (`S3`) and computing (`S4`). Within a phase the same step is taken once for each
of the seven distances, so each step is one lemma for all of them, and `prog n A B` is what the phase holds after `n`
steps: `A` for the distances still to come, `B` for those done.
-/
module

public import proofs.«01_k».proof.Proof.Protocol
public import Idealize.ShloMosaic.Lib.Ring

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-! ## Programs run from a precondition -/

/-- From `P`, device `c` runs `p` to `Q`. -/
def tri (c : Dev nD) {α : Type} (P : sProp 𝕄) (p : Prog (TpuEff nD τ sig (Elt F) Λ₀ .tc) α) (Q : α → sProp 𝕄) : Prop :=
  P ⊢ wp frame (wpE (defs₀ (F := F)) 𝒱₀ (c : Thread nD τ) none) Set.univ p Q

theorem seq {c : Dev nD} {α β : Type} {P : sProp 𝕄} {p : Prog (TpuEff nD τ sig (Elt F) Λ₀ .tc) α} {Q : α → sProp 𝕄}
    {k : α → Prog (TpuEff nD τ sig (Elt F) Λ₀ .tc) β} {T : β → sProp 𝕄} (h : tri c P p Q) (h' : ∀ a, tri c (Q a) (k a) T) :
    tri c P (p >>= k) T := by
  unfold tri; rw [wp_bind]; exact h.trans (wp_mono _ _ _ h')
theorem pre {c : Dev nD} {α : Type} {P P' : sProp 𝕄} {p : Prog (TpuEff nD τ sig (Elt F) Λ₀ .tc) α} {Q : α → sProp 𝕄}
    (h : P ⊢ P') (h' : tri c P' p Q) : tri c P p Q := by
  unfold tri at *; exact h.trans h'
theorem given {c : Dev nD} {α : Type} {P : sProp 𝕄} {p : Prog (TpuEff nD τ sig (Elt F) Λ₀ .tc) α} {Q : α → sProp 𝕄} {φ : Prop}
    (h : φ → tri c P p Q) : tri c iprop(⌜φ⌝ ∗ P) p Q := by
  unfold tri at *; iintro ⟨%hφ, HP⟩; iapply (h hφ); iexact HP
theorem ret {c : Dev nD} {α : Type} {P : sProp 𝕄} {Q : α → sProp 𝕄} {a : α} (h : P ⊢ (|={Set.univ}=> Q a : sProp 𝕄)) :
    tri c P (pure a) Q := by
  unfold tri; rw [Prog.pure_eq_ret, wp_ret]; exact h
theorem device {c : Dev nD} {β : Type} {P : sProp 𝕄} {T : β → sProp 𝕄} {k : Dev nD → Prog (TpuEff nD τ sig (Elt F) Λ₀ .tc) β}
    (h : tri c P (k c) T) : tri c P (Prog.lift .deviceId >>= k) T := by
  unfold tri at *; simp only [Prog.lift, Prog.bind_op, Prog.bind_ret, wp_deviceId]; exact h

/-! ## A phase of seven steps -/

/-- The distances below number `n`. -/
def done (n : ℕ) : Finset (Fin 7) := Finset.univ.filter fun k => k.val < n
theorem done_zero : done 0 = ∅ := by decide
theorem done_seven : done 7 = Finset.univ := by decide
theorem done_step (k : Fin 7) : done (k.val + 1) = insert k (done k.val) := by revert k; decide
theorem done_notMem (k : Fin 7) : k ∉ done k.val := by revert k; decide

/-- After `n` steps: `A` at the distances to come, `B` at those done. -/
def prog (n : ℕ) (A B : Fin 7 → sProp 𝕄) : sProp 𝕄 := iprop(bigSep (left n) A ∗ bigSep (done n) B)

omit [FloatOps F] in
theorem prog_zero (A B : Fin 7 → sProp 𝕄) : bigSep Finset.univ A ⊢ prog 0 A B := by
  unfold prog; rw [left_zero, done_zero, bigSep_empty]; exact Laws.sep_emp.2
omit [FloatOps F] in
theorem prog_seven (A B : Fin 7 → sProp 𝕄) : prog 7 A B ⊢ bigSep Finset.univ B := by
  unfold prog; rw [left_seven, done_seven, bigSep_empty]; exact BIClass.emp_sep.1

/-- One step of a phase: what turns `A k` into `B k`, what is owed changing from `O` to `O'`, at the persistent `I`, is a
    step of the phase. -/
theorem prog_step {c : Dev nD} {p : Prog (TpuEff nD τ sig (Elt F) Λ₀ .tc) PUnit} (A B : Fin 7 → sProp 𝕄) (k : Fin 7) (I O O' R : sProp 𝕄)
    (h : tri c iprop(I ∗ O ∗ A k) p fun _ => iprop(I ∗ O' ∗ B k)) :
    tri c iprop(I ∗ O ∗ prog k.val A B ∗ R) p fun _ => iprop(I ∗ O' ∗ prog (k.val + 1) A B ∗ R) := by
  have e1 : bigSep (left k.val) A = iprop(A k ∗ bigSep (left (k.val + 1)) A) := by rw [left_step, bigSep_insert (left_notMem k)]; rfl
  have e2 : bigSep (done (k.val + 1)) B = iprop(B k ∗ bigSep (done k.val) B) := by rw [done_step, bigSep_insert (done_notMem k)]; rfl
  unfold tri prog at *
  rw [e1, e2]
  iintro ⟨HI, HO, ⟨⟨HA, HL⟩, HD⟩, HR⟩
  iapply (wp_wand_r (frame (nD := nD) (τ := τ) (sig := sig)) _)
  isplitl [HI HO HA]
  · iapply h; isplitl [HI]; · iexact HI
    isplitl [HO] <;> iassumption
  · iintro %_ ⟨HI, HO, HB⟩
    isplitl [HI]; · iexact HI
    isplitl [HO]; · iexact HO
    isplitl [HL HB HD]
    · isplitl [HL]; · iexact HL
      isplitl [HB] <;> iassumption
    iexact HR

/-! ## What a device holds -/

variable (m : (ℓ : Loc nD τ sig) → Buf (Elt F) ℓ) (K : Dev nD × CK → ℕ) (c : Dev nD)

/-- What every device knows: the invariant of every cell of the exchange, that each has reached round 0, and the levels. -/
def know : sProp 𝕄 :=
  iprop((bigSep Finset.univ fun ck : Dev nD × CK => iprop(cellInv ER (exRd m) (K ck) (kcell ck) ∗ reached ER (kcell ck) 0)) ∗ levAts L lv)
instance know_persistent : BI.Persistent (know m K) := by unfold know; infer_instance

/-- Device `c` owes `O`. -/
def ow (O : CellTallies nD τ sig Unit) : sProp 𝕄 := iprop(∃ W, owes (c : Thread nD τ) O W)
/-- A whole buffer of device `c`. -/
def pts (b : Ref sig .tc) (X : Buf (Elt F) ((c : Thread nD τ).loc b)) : sProp 𝕄 := ((c : Thread nD τ).loc b) ↦{fullShare} X

def sigA (k : Fin 7) : sProp 𝕄 := iprop(dutyTok ER (barCell (dn k c)) 0 k ∗ ∃ f, slotAt c (dn k c) fullShare f)
def tokA (k : Fin 7) : sProp 𝕄 := iprop(dutyTok ER (sndCell c k) 0 k ∗ dutyTok ER (rcvCell (dn k c) k) 0 k)
def sendA (k : Fin 7) : sProp 𝕄 := iprop(tokA c k ∗ (∃ f, slotAt (dn k c) c fullShare f) ∗ sndPay m c k)
def sendB (k : Fin 7) : sProp 𝕄 := cred (tallyAt (sndCell c k) () N)
def sWA (k : Fin 7) : sProp 𝕄 := iprop(cred (tallyAt (sndCell c k) () N) ∗ atPos ER (sndCell c k) 0 ∅ 0)
def sWB (k : Fin 7) : sProp 𝕄 := iprop(atPos ER (sndCell c k) 1 ∅ 0 ∗ sndPay m c k)
def rWA (k : Fin 7) : sProp 𝕄 := iprop(cred (tallyAt (rcvCell c k) () N) ∗ atPos ER (rcvCell c k) 0 ∅ 0)
def rWB (k : Fin 7) : sProp 𝕄 := iprop(atPos ER (rcvCell c k) 1 ∅ 0 ∗ rcvPay m c k)

/-- The four staged arguments, the result's buffer, and the positions of the two unused cells. -/
def stgs : sProp 𝕄 :=
  iprop(pts c cc0_stg0_0 (xs m c) ∗ pts c cc0_stg1_0 (ts m c) ∗ pts c cc0_stg2_0 (wa m c) ∗ pts c cc0_stg3_0 (wb m c) ∗ (∃ o, pts c cc0_stg4_0 o)
    ∗ bigSep Finset.univ fun b : Bool => atPos ER ((c : Thread nD τ), .dma (dsem (b, 0))) 0 ∅ 0)

/-- Before the barrier: its position and its seven units, the own slot, what the copies and the waits will take. -/
def hold1 : sProp 𝕄 :=
  iprop(atPos ER (barCell c) 0 ∅ 0 ∗ cred (tallyAt (barCell c) () 7) ∗ (∃ f, slotAt c c fullShare f) ∗ bigSep Finset.univ (tokA (F := F) c)
    ∗ (bigSep Finset.univ fun k => atPos ER (sndCell c k) 0 ∅ 0) ∗ bigSep Finset.univ (rWA (F := F) c) ∗ stgs m c)
def rest : sProp 𝕄 :=
  iprop(atPos ER (barCell c) 1 ∅ 0 ∗ slotAt c c (Transfers.shareDrop fullShare 7) (comm m) ∗ stgs m c)
def hold2 : sProp 𝕄 :=
  iprop((bigSep Finset.univ fun k => atPos ER (sndCell c k) 0 ∅ 0) ∗ bigSep Finset.univ (rWA (F := F) c) ∗ rest m c)

def S1 (n : ℕ) : sProp 𝕄 := iprop(know m K ∗ ow c (Orcv c 0 + Obar c n) ∗ prog n (sigA c) (fun _ => iprop(emp)) ∗ hold1 m c)
def S2 (n : ℕ) : sProp 𝕄 := iprop(know m K ∗ ow c (Orcv c n) ∗ prog n (sendA m c) (sendB c) ∗ hold2 m c)
def S3 (n n' : ℕ) : sProp 𝕄 := iprop(know m K ∗ ow c 0 ∗ prog n (sWA c) (sWB m c) ∗ prog n' (rWA c) (rWB m c) ∗ rest m c)
/-- After the waits: the scratch buffer whole, every cell of the exchange past its round. -/
def S4 : sProp 𝕄 :=
  iprop(know m K ∗ ow c 0 ∗ (bigSep Finset.univ fun k => atPos ER (sndCell c k) 1 ∅ 0) ∗ (bigSep Finset.univ fun k => atPos ER (rcvCell c k) 1 ∅ 0)
    ∗ atPos ER (barCell c) 1 ∅ 0 ∗ pts c cc0_scratch0 (comm m) ∗ stgs m c)

theorem know_cell (ck : Dev nD × CK) : know m K ⊢ iprop(cellInv ER (exRd m) (K ck) (kcell ck) ∗ reached ER (kcell ck) 0) := by
  unfold know
  exact sep_elim_left.trans (bigSep_elim (Finset.mem_univ ck))

/-! ## The steps -/

/-- A signal to the barrier of the device at distance `k + 1`. -/
theorem signal (k : Fin 7) (d : Dev nD) (hd : d.val = (c.val + (k.val + 1)) % 8) :
    tri c (S1 m K c k.val) (semSignalWord d barS 1#32) fun _ => S1 m K c (k.val + 1) := by
  obtain rfl : d = dn k c := Fin.ext hd
  refine prog_step _ _ k _ _ _ _ ?_
  unfold tri sigA ow semSignalWord
  iintro ⟨#HI, ⟨%W, HO⟩, Ht, ⟨%f, Hs⟩⟩
  ihave HIc := (know_cell m K (dn k c, none)) $$ HI
  icases HIc with ⟨HIb, Hr⟩
  iapply (Rounds.wp_signal 𝒱₀ ER (exRd m) (c : Thread nD τ) none (dst := (dn k c : Thread nD τ)) (κ := K (dn k c, none)) (r := 0)
      (d := k) (by rw [duties_bar]; exact Finset.mem_univ _) rfl () (O₀ := Orcv c 0 + Obar c k.val) (Orcv c 0 + Obar c (k.val + 1)) (by rw [Obar_step, add_assoc]; rfl))
    $$ [HIb HO Ht Hs Hr]
  · isplitl [HIb]; · iexact HIb
    isplitl [HO]; · iexact HO
    isplitl [Ht]; · iexact Ht
    isplitl [Hs]
    · iapply (Entails.of_eq (show iprop(∃ f, slotAt c (dn k c) fullShare f) = (exRd m).payload (barCell (dn k c)) 0 k by
        show _ = barPay (dn k c) k; unfold barPay; rw [up_dn]))
      iexists f; iexact Hs
    iexact Hr
  iintro HO
  rw [wp_ret]; imodintro
  isplitr; · iexact HI
  isplitl [HO]; · iexists W; iexact HO
  iempintro

/-- A copy to the device at distance `k + 1`. -/
theorem send (k : Fin 7) (d : Dev nD) (hd : d.val = (c.val + (k.val + 1)) % 8) (s v : DmaSem sig) (hs : s = sndS k) (hv : v = rcvS k)
    {hsc : (slot c : Memref sig (Dev.tc d : Thread nD τ).2.kind .vmem S8x1024 .f32).view.ref.isScScratch = false}
    {hsrc : (slot c).view.WordExact} {hdst : (slot c).view.WordExact}
    {hsem : DmaTarget.Typed .vmem (.dma v) (.remote (Dev.tc d : Thread nD τ) (slot c) (.dma s) hsc)} :
    tri c (S2 m K c k.val) (Prog.lift (.enqueueDma (slot c) (.remote (Dev.tc d : Thread nD τ) (slot c) (.dma s) hsc) (.dma v) hsrc hdst hsem))
      fun _ => S2 m K c (k.val + 1) := by
  obtain rfl : d = dn k c := Fin.ext hd
  subst hs hv
  refine prog_step _ _ k _ _ _ _ ?_
  unfold tri sendA sendB tokA ow Prog.lift
  iintro ⟨#HI, ⟨%W, HO⟩, ⟨Hts, Htr⟩, ⟨%f, Hd⟩, Hs⟩
  ihave HIs := (know_cell m K (c, some (false, k.succ))) $$ HI
  icases HIs with ⟨HIs, Hrs⟩
  ihave HIv := (know_cell m K (dn k c, some (true, k.succ))) $$ HI
  icases HIv with ⟨HIv, Hrv⟩
  unfold sndPay slotAt
  iapply (Rounds.wp_send_pointsTo 𝒱₀ ER (exRd m) (c : Thread nD τ) none (κ₁ := K (c, some (false, k.succ))) (κ₂ := K (dn k c, some (true, k.succ)))
      (r₁ := 0) (r₂ := 0) (d₁ := k) (d₂ := k) (fd := f)
      (by rw [duties_snd]; exact Finset.mem_singleton_self _) (by rw [duties_rcv]; exact Finset.mem_singleton_self _)
      () () N (slot_amount c _) (amount_dma m _ k _) (amount_dma m _ k _) (Orcv c (k.val + 1)) (Orcv_step c k) (W := W)
      (by rw [payload_snd]; exact BI.Entails.refl _)
      (by
        rw [payload_rcv]; unfold rcvPay; rw [up_dn]
        exact Entails.of_eq (slotAt_congr (dn k c) c fullShare _ _ (copy_slot c f (comm m)))))
    $$ [HIs HIv Hs Hd HO Hts Hrs Htr Hrv]
  · isplitl [HIs]; · iexact HIs
    isplitl [HIv]; · iexact HIv
    isplitl [Hs]; · iexact Hs
    isplitl [Hd]; · iexact Hd
    isplitl [HO]; · iexact HO
    isplitl [Hts]; · iexact Hts
    isplitl [Hrs]; · iexact Hrs
    isplitl [Htr]; · iexact Htr
    iexact Hrv
  iintro ⟨Hc, HO⟩
  rw [wp_ret]; imodintro
  isplitr; · iexact HI
  isplitl [HO]; · iexists W; iexact HO
  iexact Hc

/-- A wait on the exchange's cell of one semaphore, owing nothing: the cell is past its round and its payload is here. -/
theorem wait_cell (b : Bool) (k : Fin 7) (Pay : sProp 𝕄) (g : GSem nD τ sig) (hg : g = ((c : Thread nD τ), .dma (dsem (b, k.succ))))
    (he : (exRd m).expect g 0 = N) (hp : bigSep ((exRd m).duties g 0 \ ∅) (fun d => (exRd m).payload g 0 d) = Pay)
    {hsrc : (slot c).view.WordExact} {hdst : (slot c).view.WordExact} :
    tri c iprop(know m K ∗ ow c 0 ∗ cred (tallyAt g () N) ∗ atPos ER g 0 ∅ 0) (Prog.lift (.waitDma2 (dsem (b, k.succ)) (slot c) (slot c) hsrc hdst))
      fun _ => iprop(know m K ∗ ow c 0 ∗ atPos ER g 1 ∅ 0 ∗ Pay) := by
  subst hg
  unfold tri ow Prog.lift
  iintro ⟨#HI, ⟨%W, HO⟩, Hc, Hat⟩
  ihave HIs := (know_cell m K (c, some (b, k.succ))) $$ HI
  icases HIs with ⟨HIs, -⟩
  iapply (Rounds.wp_wait_rest_token 𝒱₀ ER (exRd m) (c : Thread nD τ) none (κ := K (c, some (b, k.succ)))
      (wpE_waitDma2_eq 𝒱₀ (c : Thread nD τ) none Set.univ) (Set.mem_univ _) () (O := 0) (W := W) (R := 0) (m := 0) (T := ∅)
      (by rw [Nat.zero_add, he])) $$ [HIs Hc HO Hat]
  · isplitl [HIs]; · iexact HIs
    isplitl [Hc]; · iexact Hc
    isplitl [HO]; · iexact HO
    isplitr; · rw [MayWait_zero]; iempintro
    iexact Hat
  iintro ⟨HO, Hat, -, Hpay⟩
  rw [wp_ret]; imodintro
  isplitr; · iexact HI
  isplitl [HO]; · iexists _; iexact HO
  isplitl [Hat]; · iexact Hat
  iapply (Entails.of_eq hp); iexact Hpay

/-- The wait on the copy to the device at distance `k + 1`, -/
theorem wait_snd (k : Fin 7) (n' : ℕ) (s : DmaSem sig) (hs : s = sndS k) {hsrc : (slot c).view.WordExact} {hdst : (slot c).view.WordExact} :
    tri c (S3 m K c k.val n') (Prog.lift (.waitDma2 s (slot c) (slot c) hsrc hdst)) fun _ => S3 m K c (k.val + 1) n' := by
  subst hs
  exact prog_step _ _ k _ _ _ _ (wait_cell m K c false k (sndPay m c k) (sndCell c k) rfl (expect_snd m c k) (rest_snd m c k))
/-- and on the one from the device at distance `k + 1` before. -/
theorem wait_rcv (k : Fin 7) (n : ℕ) (s : DmaSem sig) (hs : s = rcvS k) {hsrc : (slot c).view.WordExact} {hdst : (slot c).view.WordExact} :
    tri c (S3 m K c n k.val) (Prog.lift (.waitDma2 s (slot c) (slot c) hsrc hdst)) fun _ => S3 m K c n (k.val + 1) := by
  subst hs
  have h := prog_step (rWA c) (rWB m c) k (know m K) (ow c 0) (ow c 0) iprop(prog n (sWA c) (sWB m c) ∗ rest m c)
    (wait_cell m K c true k (rcvPay m c k) (rcvCell c k) rfl (expect_rcv m c k) (rest_rcv m c k) (hsrc := hsrc) (hdst := hdst))
  unfold tri at *
  unfold S3
  refine BIBase.Entails.trans ?_ (h.trans (wp_mono _ _ _ fun _ => ?_))
  · iintro ⟨HI, HO, HS, HR, H⟩
    isplitl [HI]; · iexact HI
    isplitl [HO]; · iexact HO
    isplitl [HR]; · iexact HR
    isplitl [HS] <;> iassumption
  · iintro ⟨HI, HO, HR, HS, H⟩
    isplitl [HI]; · iexact HI
    isplitl [HO]; · iexact HO
    isplitl [HS]; · iexact HS
    isplitl [HR] <;> iassumption

/-! ## The barrier's wait and the own slot -/

/-- What is held between the barrier's wait and the copies but for the own slot. -/
def hold15 : sProp 𝕄 :=
  iprop(know m K ∗ ow c (Orcv c 0) ∗ atPos ER (barCell c) 1 ∅ 0 ∗ (bigSep Finset.univ fun k => iprop(∃ f, slotAt (dn k c) c fullShare f))
    ∗ bigSep Finset.univ (tokA (F := F) c) ∗ (bigSep Finset.univ fun k => atPos ER (sndCell c k) 0 ∅ 0) ∗ bigSep Finset.univ (rWA (F := F) c) ∗ stgs m c)

omit [FloatOps F] in
/-- The seven slots the barrier's units hand over, by the distance the copies go. -/
theorem bar_pays : bigSep Finset.univ (barPay (F := F) c) = bigSep Finset.univ fun k => iprop(∃ f, slotAt (dn k c) c fullShare f) := by
  have h (g : Fin 7 → Dev nD) (hg : Function.Injective g) : bigSep Finset.univ (fun k => iprop(∃ f, slotAt (F := F) (g k) c fullShare f))
      = bigSep (Finset.univ.map ⟨g, hg⟩) fun d => iprop(∃ f, slotAt (F := F) d c fullShare f) := by rw [bigSep_map]; rfl
  unfold barPay
  rw [h _ (up_injective c), h _ (dn_injective c), ← others_dn, ← others_up]

theorem wait_bar : tri c (S1 m K c 7) (semWaitWord barS 7#32) fun _ => iprop((∃ f, slotAt c c fullShare f) ∗ hold15 m K c) := by
  unfold tri S1 hold1 hold15 ow semWaitWord
  iintro ⟨#HI, ⟨%W, HO⟩, -, Hat, Hc, Hs, Hrest⟩
  ihave HIs := (know_cell m K (c, none)) $$ HI
  icases HIs with ⟨HIs, -⟩
  rw [Obar_seven, add_zero]
  iapply (Rounds.wp_wait_rest_token 𝒱₀ ER (exRd m) (c : Thread nD τ) none (κ := K (c, none))
      (wpE_semWait_eq 𝒱₀ (c : Thread nD τ) none Set.univ) (Set.mem_univ _) () (O := Orcv c 0) (W := W) (R := 0) (m := 0) (T := ∅)
      (by rw [expect_bar]; decide)) $$ [HIs Hc HO Hat]
  · isplitl [HIs]; · iexact HIs
    isplitl [Hc]; · iexact Hc
    isplitl [HO]; · iexact HO
    isplitr
    · iapply (mayWait_bar c)
      unfold know; icases HI with ⟨-, Hl⟩; iexact Hl
    iexact Hat
  iintro ⟨HO, Hat, -, Hpay⟩
  rw [wp_ret]; imodintro
  isplitl [Hs]; · iexact Hs
  isplitr; · iexact HI
  isplitl [HO]; · iexists _; iexact HO
  isplitl [Hat]; · iexact Hat
  isplitl [Hpay]; · iapply (Entails.of_eq ((rest_bar m c).trans (bar_pays c))); iexact Hpay
  iexact Hrest

/-- A load of one buffer held whole. -/
theorem load {s : Shape} {e : EltTy} (M : Memref sig .tc .vmem s e) (r : LoadRect s) {hl : M.view.LoadsAt r} (X : Buf (Elt F) (M.view.loc (c : Thread nD τ)))
    (v : r.shape.Idx → Elt F e) (hv : M.view.readAt (Elt F) r X = v) (P : sProp 𝕄)
    (hP : P ⊢ iprop((M.view.loc (c : Thread nD τ) ↦{fullShare} X) ∗ ((M.view.loc (c : Thread nD τ) ↦{fullShare} X) -∗ P))) :
    tri c P (Prog.lift (.load M r hl)) fun w => iprop(⌜w = v⌝ ∗ P) := by
  unfold tri Prog.lift
  iintro HP
  ihave HP' := hP $$ HP
  icases HP' with ⟨Hx, Hk⟩
  iapply (wp_load 𝒱₀ (c : Thread nD τ) none Set.univ (m := M) (Finset.subset_univ _)) $$ Hx; iintro Hx
  rw [wp_ret, hv]; imodintro
  isplitr; · ipureintro; rfl
  iapply Hk; iexact Hx

/-- The load of the own slot, whose value nothing reads, -/
theorem load_slot {hl : rM.view.LoadsAt (slotR c).toLoadRect} (R : sProp 𝕄) :
    tri c iprop((∃ f, slotAt c c fullShare f) ∗ R) (Prog.lift (.load rM (slotR c).toLoadRect hl)) fun _ => iprop((∃ f, slotAt c c fullShare f) ∗ R) := by
  unfold tri Prog.lift slotAt
  iintro ⟨⟨%f, Hs⟩, HR⟩
  iapply (wp_load_rect 𝒱₀ (c : Thread nD τ) none Set.univ (m := rM) (r := slotR c) (S := (slot c).view.set) (by rw [access_set])) $$ Hs; iintro Hs
  rw [wp_ret]; imodintro
  isplitl [Hs]; · iexists f; iexact Hs
  iexact HR
/-- and the store of the own statistics into it. -/
theorem store_slot {hx : (rM.access (slotR c)).Stores Finset.univ} {hm : Finset.univ = Finset.univ ∨ ∀ a, (slotR c).stride a = 1} (R : sProp 𝕄) :
    tri c iprop((∃ f, slotAt c c fullShare f) ∗ R) (Prog.lift (.store rM (slotR c) (k0_pay2 (xs m c)) Finset.univ hx hm))
      fun _ => iprop(slotAt c c fullShare (comm m) ∗ R) := by
  unfold tri Prog.lift
  rw [show iprop(∃ f, slotAt (F := F) c c fullShare f) = iprop(∃ f, (rM.access (slotR c)).loc (c : Thread nD τ) ↦[(slot c).view.set]{fullShare} f) from rfl]
  iintro ⟨⟨%f, Hs⟩, HR⟩
  iapply (wp_store 𝒱₀ (c : Thread nD τ) none Set.univ (m := rM) (r := slotR c) (S := (slot c).view.set) (Mk := Finset.univ)
    (by rw [← access_set]; exact le_rfl)) $$ Hs; iintro Hs
  rw [wp_ret]; imodintro
  isplitl [Hs]
  · have e : ((rM.access (slotR c)).loc (c : Thread nD τ) ↦[(slot c).view.set]{fullShare}
        (rM.access (slotR c)).write (Elt F) f (k0_pay2 (xs m c)) Finset.univ : sProp 𝕄) = slotAt c c fullShare (comm m) :=
      slotAt_congr c c fullShare _ _ (store_comm m c f)
    iapply (Entails.of_eq e); iexact Hs
  iexact HR

omit [FloatOps F] in
theorem bigSep_two (A B : Fin 7 → sProp 𝕄) : iprop(bigSep Finset.univ A ∗ bigSep Finset.univ B) ⊢ bigSep Finset.univ fun k => iprop(A k ∗ B k) :=
  Entails.of_eq (bigSep_sep' _ _ _).symm

/-- The own slot dealt out to the seven copies. -/
theorem start_send : iprop(slotAt c c fullShare (comm m) ∗ hold15 m K c) ⊢ S2 m K c 0 := by
  unfold hold15 S2 hold2 rest
  iintro ⟨Hs, HI, HO, Hb, Hn, Ht, Hsnd, Hr, Hst⟩
  unfold slotAt
  ihave Hs' := (Transfers.pointsTo_toks_split fullShare 7) $$ Hs
  icases Hs' with ⟨Hd, Hs⟩
  isplitl [HI]; · iexact HI
  isplitl [HO]; · iexact HO
  isplitl [Hn Ht Hs]
  · iapply (prog_zero (sendA m c) (sendB c))
    iapply (bigSep_two (tokA c) fun k => iprop((∃ f, slotAt (dn k c) c fullShare f) ∗ sndPay m c k))
    isplitl [Ht]; · iexact Ht
    iapply (bigSep_two (fun k => iprop(∃ f, slotAt (dn k c) c fullShare f)) (sndPay m c))
    isplitl [Hn]; · iexact Hn
    iexact Hs
  isplitl [Hsnd]; · iexact Hsnd
  isplitl [Hr]; · iexact Hr
  isplitl [Hb]; · iexact Hb
  isplitl [Hd]; · iexact Hd
  iexact Hst

/-- All copies started: the waits begin. -/
theorem start_wait : S2 m K c 7 ⊢ S3 m K c 0 0 := by
  unfold S2 S3 hold2
  rw [Orcv_seven]
  iintro ⟨HI, HO, Hp, Hsnd, Hr, Hrest⟩
  isplitl [HI]; · iexact HI
  isplitl [HO]; · iexact HO
  isplitl [Hp Hsnd]
  · iapply (prog_zero (sWA c) (sWB m c))
    iapply (bigSep_two (sendB c) fun k => atPos ER (sndCell c k) 0 ∅ 0)
    isplitl [Hp]; · iapply (prog_seven (sendA m c) (sendB c)); iexact Hp
    iexact Hsnd
  isplitl [Hr]; · iapply (prog_zero (rWA c) (rWB m c)); iexact Hr
  iexact Hrest

/-- All waits done: the slots make up the scratch buffer again. -/
theorem gather : S3 m K c 7 7 ⊢ S4 m K c := by
  unfold S3 S4 rest
  iintro ⟨HI, HO, Hs, Hr, Hb, Hd, Hst⟩
  ihave Hs := (prog_seven (sWA c) (sWB m c)) $$ Hs
  have es : bigSep Finset.univ (sWB m c) = iprop((bigSep Finset.univ fun k => atPos ER (sndCell c k) 1 ∅ 0) ∗ bigSep Finset.univ (sndPay m c)) := bigSep_sep' _ _ _
  have er : bigSep Finset.univ (rWB m c) = iprop((bigSep Finset.univ fun k => atPos ER (rcvCell c k) 1 ∅ 0) ∗ bigSep Finset.univ (rcvPay m c)) := bigSep_sep' _ _ _
  ihave Hs := (Entails.of_eq es) $$ Hs
  ihave Hr := (prog_seven (rWA c) (rWB m c)) $$ Hr
  ihave Hr := (Entails.of_eq er) $$ Hr
  icases Hs with ⟨Has, Hs⟩
  icases Hr with ⟨Har, Hr⟩
  isplitl [HI]; · iexact HI
  isplitl [HO]; · iexact HO
  isplitl [Has]; · iexact Has
  isplitl [Har]; · iexact Har
  isplitl [Hb]; · iexact Hb
  isplitr [Hst]
  · have e : bigSep Finset.univ (rcvPay m c) = bigSep (Finset.univ.erase c) fun j => slotAt c j fullShare (comm m) := by
      rw [others_up, bigSep_map]; rfl
    have e' : (pts c cc0_scratch0 (comm m) : sProp 𝕄) = iprop(slotAt c c fullShare (comm m) ∗ bigSep (Finset.univ.erase c) fun j => slotAt c j fullShare (comm m)) := by
      have h := Ring.pointsTo_blocks (Ix := Unit) (Name := ℕ) (U := UU) (Lvl := ℕ) (ℓ := (c : Thread nD τ).loc cc0_scratch0) (fun j : Dev nD => (slot j).view.set) slot_disjoint slot_cover (comm m) (q := fullShare)
      unfold pts
      rw [h, bigSep_erase (Finset.mem_univ c)]; rfl
    rw [e']
    isplitr [Hr]
    · unfold slotAt
      iapply (Transfers.pointsTo_toks_join fullShare 7)
      isplitl [Hd]; · iexact Hd
      iexact Hs
    iapply (Entails.of_eq e); iexact Hr
  iexact Hst

end Cert.Exchange

end
-- ==== Proof.Parts.lean ====
/-
# The kernel's text, part by part

The printed kernel is nine parts and a last store. Each part here is its steps in order, each step one of the lemmas of
`Body`; the whole body then runs from `S1 0` to `Fini`: the result's buffer holding `outAt`, every cell closed at zero.
-/
module

public import proofs.«01_k».proof.Proof.Body

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ) (c : Dev nD)

omit [FloatOps F] in
theorem hz2 : (![0, 0] : Fin 2 → ℕ) = fun _ => 0 := funext fun a => by fin_cases a <;> rfl
theorem hz3 : (![0, 0, 0] : Fin 3 → ℕ) = fun _ => 0 := funext fun a => by fin_cases a <;> rfl

/-- The kernel's result on device `c`. -/
def outAt : (cc0_stg4_0 : Ref sig .tc).ty.Contents (Elt F) :=
  k0_pay5 (k0_pay1 (xs m c)) (k0_pay3 (ts m c) (wa m c)) (k0_pay4 (ts m c) (wb m c)) (comm m)

theorem part1 : tri c (S1 m K c 0) (k0_part1 (F := F) xM (Memref.isWhole_whole _) tM (Memref.isWhole_whole _) aM (Memref.isWhole_whole _) bM (Memref.isWhole_whole _)
      oM (Memref.isWhole_whole _) rM (Memref.isWhole_whole _) cc0_scratch1 cc0_scratch2)
    fun r => iprop(⌜r.1 = c ∧ r.2.2.1 = SemArray.scalar (sig.barrier 0 rfl)⌝ ∗ S1 m K c 5) := by
  rw [k0_part1_eq_skeleton]; unfold k0_part1_skel
  refine device ?_
  refine seq (signal m K c 0 _ (k0_dev1_eq c)) fun _ => ?_
  refine seq (signal m K c 1 _ (k0_dev2_eq c)) fun _ => ?_
  refine seq (signal m K c 2 _ (k0_dev3_eq c)) fun _ => ?_
  refine seq (signal m K c 3 _ (k0_dev4_eq c)) fun _ => ?_
  refine seq (signal m K c 4 _ (k0_dev5_eq c)) fun _ => ?_
  exact ret ((show S1 m K c 5 ⊢ _ by iintro H; isplitr; · (ipureintro; exact ⟨rfl, rfl⟩)
                                     iexact H).trans fupd_intro)

theorem part2 (v2 v24 c8 : BitVec 32) : tri c (S1 m K c 5) (k0_part2 (F := F) xM (Memref.isWhole_whole _) tM (Memref.isWhole_whole _) aM (Memref.isWhole_whole _) bM (Memref.isWhole_whole _)
      oM (Memref.isWhole_whole _) rM (Memref.isWhole_whole _) cc0_scratch1 cc0_scratch2
      c v2 (SemArray.scalar (sig.barrier 0 rfl)) v24 c8)
    fun r => iprop(⌜r.1 = k0_pay1 (xs m c)⌝ ∗ S2 m K c 0) := by
  rw [k0_part2_eq_skeleton]; unfold k0_part2_skel
  refine seq (signal m K c 5 _ (k0_dev6_eq c)) fun _ => ?_
  refine seq (signal m K c 6 _ (k0_dev7_eq c)) fun _ => ?_
  refine seq (wait_bar m K c) fun _ => ?_
  refine seq (load c xM _ (xs m c) (xs m c) (Memref.readAt_unit_zero (Elt F) cc0_stg0_0 hz3 _ _) _ ?_) fun v => given fun hv => ?_
  · unfold hold15 stgs pts
    iintro ⟨H0, H1, H2, H3, H4, H5, H6, H7, Hx, H8⟩
    isplitl [Hx]; · iexact Hx
    iintro Hx
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [Hx] <;> iassumption
  subst hv
  refine seq (load_slot c _) fun _ => ?_
  refine seq (store_slot m c _) fun _ => ?_
  exact ret ((show _ ⊢ _ by
    iintro H
    isplitr; · (ipureintro; rfl)
    iapply (start_send m K c); iexact H).trans fupd_intro)

theorem part3 (v2 : BitVec 32) : tri c (S2 m K c 0) (k0_part3 (F := F) xM (Memref.isWhole_whole _) tM (Memref.isWhole_whole _) aM (Memref.isWhole_whole _) bM (Memref.isWhole_whole _)
      oM (Memref.isWhole_whole _) rM (Memref.isWhole_whole _) cc0_scratch1 cc0_scratch2 c v2)
    fun _ => S2 m K c 3 := by
  rw [k0_part3_eq_skeleton]; unfold k0_part3_skel
  refine seq (send m K c 0 _ (k0_dev8_eq c) _ _ (snd_pick 0 1 rfl _) (rcv_pick 0 1 rfl _)) fun _ => ?_
  refine seq (send m K c 1 _ (k0_dev9_eq c) _ _ (snd_pick 1 2 rfl _) (rcv_pick 1 2 rfl _)) fun _ => ?_
  refine seq (send m K c 2 _ (k0_dev10_eq c) _ _ (snd_pick 2 3 rfl _) (rcv_pick 2 3 rfl _)) fun _ => ?_
  exact ret fupd_intro

theorem part4 (v2 : BitVec 32) : tri c (S2 m K c 3) (k0_part4 (F := F) xM (Memref.isWhole_whole _) tM (Memref.isWhole_whole _) aM (Memref.isWhole_whole _) bM (Memref.isWhole_whole _)
      oM (Memref.isWhole_whole _) rM (Memref.isWhole_whole _) cc0_scratch1 cc0_scratch2 c v2)
    fun _ => S2 m K c 6 := by
  rw [k0_part4_eq_skeleton]; unfold k0_part4_skel
  refine seq (send m K c 3 _ (k0_dev11_eq c) _ _ (snd_pick 3 4 rfl _) (rcv_pick 3 4 rfl _)) fun _ => ?_
  refine seq (send m K c 4 _ (k0_dev12_eq c) _ _ (snd_pick 4 5 rfl _) (rcv_pick 4 5 rfl _)) fun _ => ?_
  refine seq (send m K c 5 _ (k0_dev13_eq c) _ _ (snd_pick 5 6 rfl _) (rcv_pick 5 6 rfl _)) fun _ => ?_
  exact ret fupd_intro

/-- What a load of one of the other arguments needs. -/
theorem with_stg (b : Ref sig .tc) (X : Buf (Elt F) ((c : Thread nD τ).loc b)) (hb : stgs m c ⊢ iprop(pts c b X ∗ (pts c b X -∗ stgs m c))) :
    S3 m K c 0 0 ⊢ iprop(pts c b X ∗ (pts c b X -∗ S3 m K c 0 0)) := by
  unfold S3 rest
  iintro ⟨H0, H1, H2, H3, H4, H5, H6⟩
  ihave H := hb $$ H6
  icases H with ⟨Hx, Hk⟩
  isplitl [Hx]; · iexact Hx
  iintro Hx
  isplitl [H0]; · iexact H0
  isplitl [H1]; · iexact H1
  isplitl [H2]; · iexact H2
  isplitl [H3]; · iexact H3
  isplitl [H4]; · iexact H4
  isplitl [H5]; · iexact H5
  iapply Hk; iexact Hx

theorem stg_t : stgs m c ⊢ iprop(pts c cc0_stg1_0 (ts m c) ∗ (pts c cc0_stg1_0 (ts m c) -∗ stgs m c)) := by
  unfold stgs; iintro ⟨H0, Hx, H⟩
  isplitl [Hx]; · iexact Hx
  iintro Hx; isplitl [H0]; · iexact H0
  isplitl [Hx] <;> iassumption
theorem stg_a : stgs m c ⊢ iprop(pts c cc0_stg2_0 (wa m c) ∗ (pts c cc0_stg2_0 (wa m c) -∗ stgs m c)) := by
  unfold stgs; iintro ⟨H0, H1, Hx, H⟩
  isplitl [Hx]; · iexact Hx
  iintro Hx; isplitl [H0]; · iexact H0
  isplitl [H1]; · iexact H1
  isplitl [Hx] <;> iassumption
theorem stg_b : stgs m c ⊢ iprop(pts c cc0_stg3_0 (wb m c) ∗ (pts c cc0_stg3_0 (wb m c) -∗ stgs m c)) := by
  unfold stgs; iintro ⟨H0, H1, H2, Hx, H⟩
  isplitl [Hx]; · iexact Hx
  iintro Hx; isplitl [H0]; · iexact H0
  isplitl [H1]; · iexact H1
  isplitl [H2]; · iexact H2
  isplitl [Hx] <;> iassumption

theorem part5 (v43 v115 : BitVec 32) : tri c (S2 m K c 6) (k0_part5 (F := F) xM (Memref.isWhole_whole _) tM (Memref.isWhole_whole _) aM (Memref.isWhole_whole _) bM (Memref.isWhole_whole _)
      oM (Memref.isWhole_whole _) rM (Memref.isWhole_whole _) cc0_scratch1 cc0_scratch2 c v43 v115)
    fun r => iprop(⌜r.1 = k0_pay3 (ts m c) (wa m c) ∧ r.2 = k0_pay4 (ts m c) (wb m c)⌝ ∗ S3 m K c 1 0) := by
  rw [k0_part5_eq_skeleton]; unfold k0_part5_skel
  refine seq (send m K c 6 _ (k0_dev14_eq c) _ _ (snd_pick 6 7 rfl _) (rcv_pick 6 7 rfl _)) fun _ => pre (start_wait m K c) ?_
  refine seq (load c tM _ (ts m c) (ts m c) (Memref.readAt_unit_zero (Elt F) cc0_stg1_0 hz2 _ _) _ (with_stg m K c _ _ (stg_t m c))) fun v => given fun hv => ?_
  subst hv
  refine seq (load c aM _ (wa m c) (wa m c) (Memref.readAt_unit_zero (Elt F) cc0_stg2_0 hz2 _ _) _ (with_stg m K c _ _ (stg_a m c))) fun v => given fun hv => ?_
  subst hv
  refine seq (load c tM _ (ts m c) (ts m c) (Memref.readAt_unit_zero (Elt F) cc0_stg1_0 hz2 _ _) _ (with_stg m K c _ _ (stg_t m c))) fun v => given fun hv => ?_
  subst hv
  refine seq (load c bM _ (wb m c) (wb m c) (Memref.readAt_unit_zero (Elt F) cc0_stg3_0 hz2 _ _) _ (with_stg m K c _ _ (stg_b m c))) fun v => given fun hv => ?_
  subst hv
  refine seq (wait_snd m K c 0 0 _ (snd_pick 0 1 rfl _)) fun _ => ?_
  exact ret ((show _ ⊢ _ by
    iintro H
    isplitr; · (ipureintro; exact ⟨rfl, rfl⟩)
    iexact H).trans fupd_intro)

theorem part6 (v55 v67 : BitVec 32) : tri c (S3 m K c 1 0) (k0_part6 (F := F) xM (Memref.isWhole_whole _) tM (Memref.isWhole_whole _) aM (Memref.isWhole_whole _) bM (Memref.isWhole_whole _)
      oM (Memref.isWhole_whole _) rM (Memref.isWhole_whole _) cc0_scratch1 cc0_scratch2 c v55 v67)
    fun _ => S3 m K c 3 2 := by
  rw [k0_part6_eq_skeleton]; unfold k0_part6_skel
  refine seq (wait_rcv m K c 0 1 _ (rcv_pick 0 1 rfl _)) fun _ => ?_
  refine seq (wait_snd m K c 1 1 _ (snd_pick 1 2 rfl _)) fun _ => ?_
  refine seq (wait_rcv m K c 1 2 _ (rcv_pick 1 2 rfl _)) fun _ => ?_
  refine seq (wait_snd m K c 2 2 _ (snd_pick 2 3 rfl _)) fun _ => ?_
  exact ret fupd_intro

theorem part7 (v79 v170 z : BitVec 32) : tri c (S3 m K c 3 2) (k0_part7 (F := F) xM (Memref.isWhole_whole _) tM (Memref.isWhole_whole _) aM (Memref.isWhole_whole _) bM (Memref.isWhole_whole _)
      oM (Memref.isWhole_whole _) rM (Memref.isWhole_whole _) cc0_scratch1 cc0_scratch2 c v79 v170 z)
    fun _ => S3 m K c 5 4 := by
  rw [k0_part7_eq_skeleton]; unfold k0_part7_skel
  refine seq (wait_rcv m K c 2 3 _ (rcv_pick 2 3 rfl _)) fun _ => ?_
  refine seq (wait_snd m K c 3 3 _ (snd_pick 3 4 rfl _)) fun _ => ?_
  refine seq (wait_rcv m K c 3 4 _ (rcv_pick 3 4 rfl _)) fun _ => ?_
  refine seq (wait_snd m K c 4 4 _ (snd_pick 4 5 rfl _)) fun _ => ?_
  exact ret fupd_intro

theorem part8 (v91 v103 z : BitVec 32) : tri c (S3 m K c 5 4) (k0_part8 (F := F) xM (Memref.isWhole_whole _) tM (Memref.isWhole_whole _) aM (Memref.isWhole_whole _) bM (Memref.isWhole_whole _)
      oM (Memref.isWhole_whole _) rM (Memref.isWhole_whole _) cc0_scratch1 cc0_scratch2 c v91 v103 z)
    fun _ => S3 m K c 7 6 := by
  rw [k0_part8_eq_skeleton]; unfold k0_part8_skel
  refine seq (wait_rcv m K c 4 5 _ (rcv_pick 4 5 rfl _)) fun _ => ?_
  refine seq (wait_snd m K c 5 5 _ (snd_pick 5 6 rfl _)) fun _ => ?_
  refine seq (wait_rcv m K c 5 6 _ (rcv_pick 5 6 rfl _)) fun _ => ?_
  refine seq (wait_snd m K c 6 6 _ (snd_pick 6 7 rfl _)) fun _ => ?_
  exact ret fupd_intro

theorem part9 : tri c (S1 m K c 0) (k0_part9 (F := F) xM (Memref.isWhole_whole _) tM (Memref.isWhole_whole _) aM (Memref.isWhole_whole _) bM (Memref.isWhole_whole _)
      oM (Memref.isWhole_whole _) rM (Memref.isWhole_whole _) cc0_scratch1 cc0_scratch2)
    fun r => iprop(⌜r = outAt m c⌝ ∗ S4 m K c) := by
  rw [k0_part9_eq_skeleton]; unfold k0_part9_skel
  refine seq (part1 m K c) ?_
  rintro ⟨d, v2, v3, v24, c8⟩
  refine given fun h => ?_
  obtain ⟨rfl, rfl⟩ : d = c ∧ v3 = SemArray.scalar (sig.barrier 0 rfl) := h
  refine seq (part2 m K d v2 v24 c8) ?_
  rintro ⟨v33, v43⟩
  refine given fun h => ?_
  obtain rfl : v33 = k0_pay1 (xs m d) := h
  refine seq (part3 m K d v2) fun r => ?_
  refine seq (part4 m K d v2) fun r' => ?_
  refine seq (part5 m K d v43 r'.2.2) ?_
  rintro ⟨v130, v135⟩
  refine given fun h => ?_
  obtain ⟨rfl, rfl⟩ : v130 = k0_pay3 (ts m d) (wa m d) ∧ v135 = k0_pay4 (ts m d) (wb m d) := h
  refine seq (part6 m K d r.1 r.2.1) fun r6 => ?_
  refine seq (part7 m K d r.2.2 r6.1 r6.2) fun r7 => ?_
  refine seq (part8 m K d r'.1 r'.2.1 r7) fun _ => ?_
  refine seq (wait_rcv m K d 6 7 _ (rcv_pick 6 7 rfl _)) fun _ => pre (gather m K d) ?_
  refine seq (load d rM _ (comm m) (comm m) (Memref.readAt_unit_zero (Elt F) cc0_scratch0 hz3 _ _) _ ?_) fun v => given fun hv => ?_
  · unfold S4 pts
    iintro ⟨H0, H1, H2, H3, H4, Hx, H5⟩
    isplitl [Hx]; · iexact Hx
    iintro Hx
    isplitl [H0]; · iexact H0
    isplitl [H1]; · iexact H1
    isplitl [H2]; · iexact H2
    isplitl [H3]; · iexact H3
    isplitl [H4]; · iexact H4
    isplitl [Hx] <;> iassumption
  subst hv
  exact ret ((show _ ⊢ _ by
    iintro H
    isplitr; · (ipureintro; rfl)
    iexact H).trans fupd_intro)

/-! ## The end -/

/-- What device `c` ends with: nothing owed, the scratch buffer whole, every cell of the exchange closed at zero, the
    arguments' staged copies as they were and the result. -/
def Fini : sProp 𝕄 :=
  iprop(ow c 0 ∗ pts c cc0_scratch0 (comm m) ∗ (bigSep Finset.univ fun bj : Bool × Fin 8 => semVal ((c : Thread nD τ), osem bj) 0) ∗ semVal (barCell c) 0
    ∗ pts c cc0_stg0_0 (xs m c) ∗ pts c cc0_stg1_0 (ts m c) ∗ pts c cc0_stg2_0 (wa m c) ∗ pts c cc0_stg3_0 (wb m c) ∗ pts c cc0_stg4_0 (outAt m c))

omit [FloatOps F] in
/-- The kernel's own semaphores: per array element 0, which nothing uses, and one per distance. -/
theorem own_cells (Φ : Bool × Fin 8 → sProp 𝕄) :
    bigSep Finset.univ Φ = iprop((bigSep Finset.univ fun b => Φ (b, 0)) ∗ (bigSep Finset.univ fun k : Fin 7 => Φ (false, k.succ))
      ∗ bigSep Finset.univ fun k : Fin 7 => Φ (true, k.succ)) := by
  have h8 (Ψ : Fin 8 → sProp 𝕄) : bigSep Finset.univ Ψ = iprop(Ψ 0 ∗ bigSep Finset.univ fun k : Fin 7 => Ψ k.succ) := by
    rw [Fin.univ_succ, Finset.cons_eq_insert, bigSep_insert (by simp), bigSep_map]; rfl
  have h2 (Ψ : Bool → sProp 𝕄) : bigSep Finset.univ Ψ = iprop(Ψ false ∗ Ψ true) := bigSep_univ_eq_bigSepL [false, true] (by decide) (by decide) Ψ
  rw [bigSep_univ_prod, h2, h2, h8, h8]
  show BI.sep (BI.sep _ _) (BI.sep _ _) = BI.sep (BI.sep _ _) (BI.sep _ _)
  ac_rfl

/-- A family of own cells, each past its last round, closes. -/
theorem close {ι : Type} [Fintype ι] [DecidableEq ι] (f : ι → CK) (R : ℕ) (hR : ∀ i, ∀ r, R ≤ r → (exRd m).duties (kcell (c, f i)) r = ∅) :
    iprop(know m K ∗ bigSep Finset.univ fun i => atPos ER (kcell (c, f i)) R ∅ 0)
      ⊢ (|={Set.univ}=> bigSep Finset.univ fun i => semVal (kcell (c, f i)) 0 : sProp 𝕄) := by
  refine BIBase.Entails.trans ?_ (Rounds.cells_close ER (exRd m) Finset.univ (fun i => kcell (c, f i)) (fun i => K (c, f i)) (fun _ _ => Set.mem_univ _)
    (fun _ _ h => h) (fun _ => R) (fun i _ => hR i))
  refine bigSep_with_persistent fun i _ => ?_
  iintro ⟨HI, Ha⟩
  isplitl [HI]
  · ihave H := (know_cell m K (c, f i)) $$ HI
    icases H with ⟨H, -⟩; iexact H
  iexact Ha

theorem sound : tri c (S1 m K c 0) (cc0_body (F := F) xM (Memref.isWhole_whole _) tM (Memref.isWhole_whole _) aM (Memref.isWhole_whole _) bM (Memref.isWhole_whole _)
      oM (Memref.isWhole_whole _) rM (Memref.isWhole_whole _) cc0_scratch1 cc0_scratch2) fun _ => Fini m c := by
  rw [cc0_body_eq_skeleton]; unfold cc0_body_skel
  refine seq (part9 m K c) fun v => given fun hv => ?_
  subst hv
  unfold tri S4 stgs pts Prog.lift
  simp only [Prog.bind_op, Prog.bind_ret, Prog.pure_eq_ret]
  iintro ⟨#HI, HO, Has, Har, Hab, Hr, Hx, Ht, Ha, Hb, ⟨%o, Ho⟩, H0⟩
  iapply (wp_load 𝒱₀ (c : Thread nD τ) none Set.univ (m := oM) (Finset.subset_univ _)) $$ Ho; iintro Ho
  iapply (wp_store 𝒱₀ (c : Thread nD τ) none Set.univ (m := oM) (r := Rect.unit (s := S4x1024x256) ![0, 0, 0] S4x1024x256.size inb_S4x1024x256_S4x1024x256_0_0_0)
    (Mk := Finset.univ) (Finset.subset_univ _)) $$ Ho; iintro Ho
  rw [show ((oM : Memref sig .tc .vmem S4x1024x256 .f32).access (Rect.unit (s := S4x1024x256) ![0, 0, 0] S4x1024x256.size inb_S4x1024x256_S4x1024x256_0_0_0) : View sig .tc _ _ _).write
    (Elt F) o (outAt m c) Finset.univ = outAt m c from Memref.write_access_unit_zero_univ (Elt F) cc0_stg4_0 hz3 _ o (outAt m c), wp_ret]
  imod (close m K c (fun b : Bool => some (b, 0)) 0 (duties_spare m c)) $$ [H0] with H0
  · isplitr; · iexact HI
    iexact H0
  imod (close m K c (fun k : Fin 7 => some (false, k.succ)) 1 (fun k => duties_later m _)) $$ [Has] with Has
  · isplitr; · iexact HI
    iexact Has
  imod (close m K c (fun k : Fin 7 => some (true, k.succ)) 1 (fun k => duties_later m _)) $$ [Har] with Har
  · isplitr; · iexact HI
    iexact Har
  ihave HIb := (know_cell m K (c, none)) $$ HI
  icases HIb with ⟨HIb, -⟩
  imod (Rounds.cell_close ER (exRd m) (Set.mem_univ (K (c, none))) (fun h => h) (R := 1) (duties_later m (barCell c))) $$ [HIb Hab] with Hab
  · isplitl [HIb]; · iexact HIb
    iexact Hab
  imodintro
  unfold Fini pts
  isplitl [HO]; · iexact HO
  isplitl [Hr]; · iexact Hr
  isplitl [H0 Has Har]
  · rw [own_cells]
    isplitl [H0]; · iexact H0
    isplitl [Has]; · iexact Has
    iexact Har
  isplitl [Hab]; · iexact Hab
  isplitl [Hx]; · iexact Hx
  isplitl [Ht]; · iexact Ht
  isplitl [Ha]; · iexact Ha
  isplitl [Hb]; · iexact Hb
  iexact Ho

end Cert.Exchange

end
-- ==== Proof.Launch.lean ====
/-
# The launch and the run

Each device's body starts from the exchange's ghost state (`G'`): every cell allocated under one update, the positions of
its own cells, and the tokens of the duties it pays, dealt around from the cells they belong to. `run_main` then gives the
run of the whole program at any float values: the arguments as they were, every counter zero, the result `outAt`.
-/
module

public import proofs.«01_k».proof.Proof.Parts
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The ghost state a device starts from -/

/-- The tokens of the duties device `c` pays. -/
def payToks (c : Dev nD) : sProp 𝕄 :=
  iprop((bigSep Finset.univ fun k : Fin 7 => dutyTok ER (barCell (dn k c)) 0 k) ∗ bigSep Finset.univ (tokA (F := F) c))
/-- With them, the positions of its own cells. -/
def linear (c : Dev nD) : sProp 𝕄 := iprop((bigSep Finset.univ fun ck : CK => atPos ER (kcell (c, ck)) 0 ∅ 0) ∗ payToks c)
/-- What all devices share. -/
def shared (K : Dev nD × CK → ℕ) : sProp 𝕄 :=
  bigSep Finset.univ fun ck : Dev nD × CK => iprop(cellInv ER (exRd m) (K ck) (kcell ck) ∗ reached ER (kcell ck) 0)
instance shared_persistent (K : Dev nD × CK → ℕ) : BI.Persistent (shared m K) := by unfold shared; infer_instance
def G' (c : Dev nD) : sProp 𝕄 := iprop(∃ K, shared m K ∗ linear c)

/-- With the credits of its barrier and its receive cells, and the levels. -/
def start (c : Dev nD) : sProp 𝕄 :=
  iprop(G' m c ∗ cred (tallyAt (barCell c) () 7) ∗ (bigSep Finset.univ fun k => cred (tallyAt (rcvCell c k) () N)) ∗ levAts L lv)
def Φ₀ (c : Dev nD) : sProp 𝕄 := iprop(start m c ∗ ∃ f, pts c cc0_scratch0 f)
/-- After the body: the scratch buffer, and the counters of the exchange at zero. -/
def Φ₁ (c : Dev nD) : sProp 𝕄 :=
  iprop(pts c cc0_scratch0 (comm m) ∗ (bigSep Finset.univ fun bj : Bool × Fin 8 => semVal ((c : Thread nD τ), osem bj) 0) ∗ semVal (barCell c) 0)

omit [FloatOps F] in
theorem over_ck (Φ : CK → sProp 𝕄) : bigSep Finset.univ Φ = iprop(Φ none ∗ bigSep Finset.univ fun bj => Φ (some bj)) := by
  rw [bigSep_erase (Finset.mem_univ none), show Finset.univ.erase (none : CK) = Finset.univ.map Function.Embedding.some by decide, bigSep_map]; rfl

omit [FloatOps F] in
/-- A scratch buffer cut into its slots: the own one, and the seven others by distance. -/
theorem cut (c : Dev nD) (f : Buf (Elt F) ((c : Thread nD τ).loc cc0_scratch0)) :
    (pts c cc0_scratch0 f : sProp 𝕄) ⊢ iprop((∃ f, slotAt c c fullShare f) ∗ bigSep Finset.univ fun k => iprop(∃ f, slotAt c (dn k c) fullShare f)) := by
  have h := Ring.pointsTo_blocks (Ix := Unit) (Name := ℕ) (U := UU) (Lvl := ℕ) (ℓ := (c : Thread nD τ).loc cc0_scratch0) (fun j : Dev nD => (slot j).view.set) slot_disjoint slot_cover f (q := fullShare)
  have e : (pts c cc0_scratch0 f : sProp 𝕄) = iprop(slotAt c c fullShare f ∗ bigSep Finset.univ fun k => slotAt c (dn k c) fullShare f) := by
    unfold pts
    rw [h, bigSep_erase (Finset.mem_univ c), others_dn, bigSep_map]; rfl
  rw [e]
  exact BIClass.sep_mono (by iintro H; iexists f; iexact H) (bigSep_mono fun k _ => show (slotAt c (dn k c) fullShare f : sProp 𝕄) ⊢ iprop(∃ f, slotAt c (dn k c) fullShare f) by iintro H; iexists f; iexact H)

/-- What the body is entered with makes its first state. -/
theorem enter (c : Dev nD) :
    iprop(Φ₀ m c ∗ ow c (O₀ c) ∗ pts c cc0_stg0_0 (xs m c) ∗ pts c cc0_stg1_0 (ts m c) ∗ pts c cc0_stg2_0 (wa m c) ∗ pts c cc0_stg3_0 (wb m c)
      ∗ ∃ o, pts c cc0_stg4_0 o) ⊢ iprop(∃ K, S1 m K c 0) := by
  unfold Φ₀ start G' linear payToks
  iintro ⟨⟨⟨⟨%K, HI, Hp, Htb, Htk⟩, Hcb, Hcr, Hlv⟩, ⟨%f, Hf⟩⟩, HO, Hx, Ht, Ha, Hb, Ho⟩
  ihave Hf := (cut c f) $$ Hf
  icases Hf with ⟨Hown, Hoth⟩
  ihave Hp := (Entails.of_eq (over_ck (F := F) fun ck => atPos ER (kcell (c, ck)) 0 ∅ 0)) $$ Hp
  icases Hp with ⟨Hpb, Hp⟩
  ihave Hp := (Entails.of_eq (own_cells (F := F) fun bj => atPos ER (kcell (c, some bj)) 0 ∅ 0)) $$ Hp
  icases Hp with ⟨Hp0, Hps, Hpr⟩
  iexists K
  unfold S1 hold1 stgs
  isplitl [HI Hlv]
  · unfold know
    isplitl [HI]; · unfold shared; iexact HI
    iexact Hlv
  isplitl [HO]; · iexact HO
  isplitl [Htb Hoth]
  · iapply (prog_zero (F := F) (sigA c) fun _ => iprop(emp))
    iapply (Entails.of_eq (bigSep_sep' Finset.univ (fun k : Fin 7 => (dutyTok ER (barCell (dn k c)) 0 k : sProp 𝕄)) fun k => iprop(∃ f, slotAt c (dn k c) fullShare f)).symm)
    isplitl [Htb]; · iexact Htb
    iexact Hoth
  isplitl [Hpb]; · iexact Hpb
  isplitl [Hcb]; · iexact Hcb
  isplitl [Hown]; · iexact Hown
  isplitl [Htk]; · iexact Htk
  isplitl [Hps]; · iexact Hps
  isplitl [Hcr Hpr]
  · iapply (Entails.of_eq (bigSep_sep' Finset.univ (fun k : Fin 7 => (cred (tallyAt (rcvCell c k) () N) : sProp 𝕄)) fun k => atPos ER (rcvCell c k) 0 ∅ 0).symm)
    isplitl [Hcr]; · iexact Hcr
    iexact Hpr
  isplitl [Hx]; · iexact Hx
  isplitl [Ht]; · iexact Ht
  isplitl [Ha]; · iexact Ha
  isplitl [Hb]; · iexact Hb
  isplitl [Ho]; · iexact Ho
  iexact Hp0

/-! ## The call's proof data and the body's obligation -/

def dats (_ : Fin 1) (c : Dev nD) : Dat τ (Elt F) Unit ℕ UU ℕ cfg0 c where
  A w := m ((cfg0.win w).arr.view.loc (c : Thread nD τ))
  after w _ := match w with
    | ⟨0, _⟩ => xs m c
    | ⟨1, _⟩ => ts m c
    | ⟨2, _⟩ => wa m c
    | ⟨3, _⟩ => wb m c
    | ⟨4, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
theorem owns_pts (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ pts c b f) := by
  unfold owns pts; simp only [Memref.view_whole, View.read_whole, View.set_whole]

omit [FloatOps F] in
theorem owns_in (c : Dev nD) (b : Ref sig .tc) (X : b.ty.Contents (Elt F)) :
    pts c b X ⊢ (owns (Ix := Unit) (Name := ℕ) (U := UU) (Lvl := ℕ) (c : Thread nD τ) (Memref.whole b) fullShare X : sProp 𝕄) := by
  rw [owns_pts]; iintro H; iexists X; isplitr; · (ipureintro; rfl)
  iexact H

omit [FloatOps F] in
theorem owns_out {γ : Type} (c : Dev nD) (b : Ref sig .tc) (X : γ → b.ty.Contents (Elt F)) (Y : b.ty.Contents (Elt F)) (h : ∀ d, X d = Y) :
    iprop(∃ d, (owns (Ix := Unit) (Name := ℕ) (U := UU) (Lvl := ℕ) (c : Thread nD τ) (Memref.whole b) fullShare (X d) : sProp 𝕄)) ⊢ pts c b Y := by
  iintro ⟨%d, H⟩
  ihave H := (Entails.of_eq (owns_pts c b (X d))) $$ H
  icases H with ⟨%f, %hf, H⟩
  rw [← h d, ← hf]; iexact H

theorem before_x (c : Dev nD) (d) : (dats m 0 c).before (0 : Fin 5) t0_0 d = xs m c := by unfold Dat.before; rw [if_pos (fetch0_0 t0_0)]; rfl
theorem before_t (c : Dev nD) (d) : (dats m 0 c).before (1 : Fin 5) t0_0 d = ts m c := by unfold Dat.before; rw [if_pos (fetch0_1 t0_0)]; rfl
theorem before_a (c : Dev nD) (d) : (dats m 0 c).before (2 : Fin 5) t0_0 d = wa m c := by unfold Dat.before; rw [if_pos (fetch0_2 t0_0)]; rfl
theorem before_b (c : Dev nD) (d) : (dats m 0 c).before (3 : Fin 5) t0_0 d = wb m c := by unfold Dat.before; rw [if_pos (fetch0_3 t0_0)]; rfl

/-- The staged buffer of `b` at contents `X`, as the obligation says it. -/
abbrev own (c : Dev nD) (b : Ref sig .tc) (X : b.ty.Contents (Elt F)) : sProp 𝕄 :=
  owns (Ix := Unit) (Name := ℕ) (U := UU) (Lvl := ℕ) (c : Thread nD τ) (Memref.whole b) fullShare X

def bodyPre (c : Dev nD) : sProp 𝕄 :=
  iprop(Φ₀ m c ∗ (dats m 0 c).owesAt () t0_0.castSucc
    ∗ (∃ d, own c cc0_stg0_0 ((dats m 0 c).before (0 : Fin 5) t0_0 d)) ∗ (∃ d, own c cc0_stg1_0 ((dats m 0 c).before (1 : Fin 5) t0_0 d))
    ∗ (∃ d, own c cc0_stg2_0 ((dats m 0 c).before (2 : Fin 5) t0_0 d)) ∗ (∃ d, own c cc0_stg3_0 ((dats m 0 c).before (3 : Fin 5) t0_0 d))
    ∗ (∃ d, own c cc0_stg4_0 ((dats m 0 c).before (4 : Fin 5) t0_0 d)))
def bodyPost (c : Dev nD) : sProp 𝕄 :=
  iprop(Φ₁ m c ∗ (dats m 0 c).owesAt () t0_0.succ
    ∗ own c cc0_stg0_0 (xs m c) ∗ own c cc0_stg1_0 (ts m c) ∗ own c cc0_stg2_0 (wa m c) ∗ own c cc0_stg3_0 (wb m c) ∗ own c cc0_stg4_0 (outAt m c))

theorem entry (c : Dev nD) : bodyPre m c ⊢ iprop(∃ K, S1 m K c 0) := by
  refine BIBase.Entails.trans ?_ (enter m c)
  unfold bodyPre
  refine sep_mono_right (BIClass.sep_mono ?_ (BIClass.sep_mono (owns_out c _ _ _ (before_x m c)) (BIClass.sep_mono (owns_out c _ _ _ (before_t m c))
    (BIClass.sep_mono (owns_out c _ _ _ (before_a m c)) (BIClass.sep_mono (owns_out c _ _ _ (before_b m c)) ?_)))))
  · unfold Dat.owesAt Pipeline.owesWithin ow
    iintro ⟨%W, -, HO⟩
    iexists W; iexact HO
  · iintro ⟨%d, H⟩
    ihave H := (Entails.of_eq (owns_pts c cc0_stg4_0 ((dats m 0 c).before (4 : Fin 5) t0_0 d))) $$ H
    icases H with ⟨%f, -, H⟩
    iexists f; iexact H

theorem exit (c : Dev nD) : Fini m c ⊢ bodyPost m c := by
  unfold Fini bodyPost Φ₁ ow
  iintro ⟨⟨%W, HO⟩, Hs, Ho, Hb, Hx, Ht, Ha, Hc, Hr⟩
  isplitl [Hs Ho Hb]
  · isplitl [Hs]; · iexact Hs
    isplitl [Ho] <;> iassumption
  isplitl [HO]
  · unfold Dat.owesAt Pipeline.owesWithin
    rw [show (dats m 0 c).owed t0_0.succ = 0 from rfl]
    iexists W
    isplitr; · ipureintro; exact fun _ _ => Or.inl trivial
    iexact HO
  isplitl [Hx]; · iapply (owns_in (F := F) c); iexact Hx
  isplitl [Ht]; · iapply (owns_in (F := F) c); iexact Ht
  isplitl [Ha]; · iapply (owns_in (F := F) c); iexact Ha
  isplitl [Hc]; · iapply (owns_in (F := F) c); iexact Hc
  iapply (owns_in (F := F) c); iexact Hr

theorem body_run (c : Dev nD) : tri c (bodyPre m c) (cc0_body (F := F) xM (Memref.isWhole_whole _) tM (Memref.isWhole_whole _) aM (Memref.isWhole_whole _)
    bM (Memref.isWhole_whole _) oM (Memref.isWhole_whole _) rM (Memref.isWhole_whole _) cc0_scratch1 cc0_scratch2) fun _ => bodyPost m c := by
  refine pre (entry m c) ?_
  unfold tri
  iintro ⟨%K, H⟩
  iapply (wp_wand_r (frame (nD := nD) (τ := τ) (sig := sig)) _)
  isplitl [H]
  · iapply (show S1 m K c 0 ⊢ _ from sound m K c); iexact H
  · iintro %_ H; iapply (exit m c); iexact H

set_option maxRecDepth 4000 in
/-- The library's obligation on device `c`'s body. -/
theorem body_obligation (c : Dev nD) : BodyObligation (dats (F := F) m 0 c) (defs₀ (F := F)) 𝒱₀ () Set.univ := fun t => by
  rw [fin_N0 t]
  rw [bigSep_W0, bigSep_W0]
  exact body_run m c

/-! ## The exchange's cells and tokens at launch -/

theorem ownSemFacts : Pipeline.OwnSemFacts cfg0.spec osem := by decide

theorem share_eq (c : Dev nD) (w : Fin cfg0.W) : (dats m 0 c).share w = fullShare := by unfold Dat.share; split <;> rfl

theorem csem_injective : Function.Injective csem
  | none, none, _ => rfl
  | some _, some _, h => congrArg some (dsem_injective (SemLoc.dma.inj h))
  | none, some _, h => nomatch h
  | some _, none, h => nomatch h
theorem kcell_injective : Function.Injective (kcell : Dev nD × CK → GSem nD τ sig) := fun a b h =>
  Prod.ext (congrArg (fun g : GSem nD τ sig => g.1.1) h) (csem_injective (congrArg Prod.snd h))
def exCells : Finset (GSem nD τ sig) := Finset.univ.map ⟨kcell, kcell_injective⟩

/-- A duty by its cell's device, its kind (the barrier's, a send's, a receive's) and its distance. -/
abbrev kind (wk : Option Bool × Fin 7) : CK := wk.1.map fun b => (b, wk.2.succ)
abbrev tokOf (cd : Dev nD × (Option Bool × Fin 7)) : GSem nD τ sig × ℕ × Fin 7 := (kcell (cd.1, kind cd.2), 0, cd.2.2)
theorem kind_injective : ∀ (k : Fin 7) {w w' : Option Bool}, kind (w, k) = kind (w', k) → w = w' := by decide
theorem tokOf_injective : Function.Injective tokOf := by
  rintro ⟨c, w, k⟩ ⟨c', w', k'⟩ h
  obtain rfl : k = k' := congrArg (fun x : GSem nD τ sig × ℕ × Fin 7 => x.2.2) h
  have h' := kcell_injective (congrArg Prod.fst h)
  obtain rfl : c = c' := congrArg Prod.fst h'
  have h2 : kind (w, k) = kind (w', k) := congrArg Prod.snd h'
  obtain rfl : w = w' := kind_injective k h2
  rfl
def exToks : Finset (GSem nD τ sig × ℕ × Fin 7) := Finset.univ.map ⟨tokOf, tokOf_injective⟩

def u₀ : UU := (initOf (Pipeline.cells cfgs cellOf_inj) (Pipeline.launchToks cfgs cellOf_inj), initOf exCells exToks)

/-- The tokens of the duties of device `c`'s own cells. -/
def toks (c : Dev nD) : sProp 𝕄 := bigSep Finset.univ fun wk : Option Bool × Fin 7 => dutyTok ER (kcell (c, kind wk)) 0 wk.2
def G (c : Dev nD) : sProp 𝕄 :=
  iprop((bigSep Finset.univ fun ck : CK => roundState ER (exRd m) (kcell (c, ck)) 0)
    ∗ (bigSep Finset.univ fun ck : CK => iprop(atPos ER (kcell (c, ck)) 0 ∅ 0 ∗ reached ER (kcell (c, ck)) 0)) ∗ toks c)

/-- A family over every device's cells, device by device. -/
theorem over_cells (Φ : GSem nD τ sig → sProp 𝕄) : bigSep exCells Φ = bigSep Finset.univ fun c : Dev nD => bigSep Finset.univ fun ck : CK => Φ (kcell (c, ck)) := by
  unfold exCells; rw [bigSep_map, bigSep_univ_prod]; rfl
theorem over_toks : bigSep exToks (fun x => (dutyTok ER x.1 x.2.1 x.2.2 : sProp 𝕄)) = bigSep Finset.univ fun c : Dev nD => toks c := by
  unfold exToks; rw [bigSep_map, bigSep_univ_prod]; rfl

theorem fund_ex : BI.own (ER (initOf exCells exToks)) ⊢ (|==> bigSep Finset.univ (G m) : sProp 𝕄) := by
  iintro HX
  imod (Rounds.fund ER (exRd m) exCells exToks) $$ HX with ⟨Hst, Hr, Hat, Htok⟩
  imodintro
  ihave Hst := (Entails.of_eq (over_cells fun g => roundState ER (exRd m) g 0)) $$ Hst
  ihave Hat := (Entails.of_eq (over_cells (F := F) fun g => atPos ER g 0 ∅ 0)) $$ Hat
  ihave Hr := (Entails.of_eq (over_cells (F := F) fun g => reached ER g 0)) $$ Hr
  ihave Htok := (Entails.of_eq (over_toks (F := F))) $$ Htok
  unfold G; simp only [bigSep_sep']
  isplitl [Hst]; · iexact Hst
  isplitl [Hat Hr]
  · isplitl [Hat] <;> iassumption
  iexact Htok

omit [FloatOps F] in
/-- The barrier's semaphore is the launch's one unscoped semaphore. -/
theorem unscoped_eq (c : Dev nD) : (unscopedSems0 c : sProp 𝕄) = semVal (barCell c) 0 := by
  unfold unscopedSems0; rw [bigSep_eq_bigSepL_of_eq [SemLoc.reg barS] (by decide) (by decide)]; rfl

/-- One device's cells allocated. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun ck : CK => iprop(∃ κ : ℕ, cellInv ER (exRd m) κ (kcell (c, ck))))
          ∗ (bigSep Finset.univ fun ck : CK => iprop(atPos ER (kcell (c, ck)) 0 ∅ 0 ∗ reached ER (kcell (c, ck)) 0)) ∗ toks c) := by
  unfold G
  iintro ⟨Hos, Hus, Hst, Hat, Htok⟩
  ihave Hus := (Entails.of_eq (unscoped_eq (F := F) c)) $$ Hus
  imod (show iprop((bigSep Finset.univ fun ck : CK => semVal (kcell (c, ck)) 0) ∗ bigSep Finset.univ fun ck : CK => roundState ER (exRd m) (kcell (c, ck)) 0)
      ⊢ (|={Set.univ}=> bigSep Finset.univ fun ck => iprop(∃ κ : ℕ, cellInv ER (exRd m) κ (kcell (c, ck))) : sProp 𝕄) from by
        rw [← bigSep_sep']
        exact (bigSep_mono fun ck _ => (Rounds.body_intro ER (exRd m) (kcell (c, ck))).trans inv_alloc).trans (bigSep_fupd _ _)) $$ [Hos Hus Hst] with Hinv
  · isplitl [Hos Hus]
    · iapply (Entails.of_eq (over_ck (F := F) fun ck => semVal (kcell (c, ck)) 0).symm)
      isplitl [Hus]; · iexact Hus
      unfold Pipeline.ownSems0; iexact Hos
    iexact Hst
  imodintro
  isplitl [Hinv]; · iexact Hinv
  isplitl [Hat]; · iexact Hat
  iexact Htok

omit [FloatOps F] in
/-- A token per device and distance, each moved that distance. -/
theorem around (T : Dev nD → Fin 7 → sProp 𝕄) :
    (bigSep Finset.univ fun c => bigSep Finset.univ fun k => T c k) = bigSep Finset.univ fun c => bigSep Finset.univ fun k => T (dn k c) k := by
  rw [bigSep_univ_comm, bigSep_univ_comm fun c k => T (dn k c) k]
  exact bigSep_congr fun k _ => bigSep_univ_equiv (turn k) fun c => T c k

omit [FloatOps F] in
theorem toks_split (c : Dev nD) : (toks c : sProp 𝕄) = iprop((bigSep Finset.univ fun k : Fin 7 => dutyTok ER (barCell c) 0 k)
    ∗ (bigSep Finset.univ fun k : Fin 7 => dutyTok ER (sndCell c k) 0 k) ∗ bigSep Finset.univ fun k : Fin 7 => dutyTok ER (rcvCell c k) 0 k) := by
  unfold toks
  rw [bigSep_univ_prod]
  exact bigSep_univ_eq_bigSepL [none, some false, some true] (by decide) (by decide) _

omit [FloatOps F] in
/-- The tokens dealt to the devices that pay with them. -/
theorem toks_around : (bigSep Finset.univ fun c : Dev nD => (toks c : sProp 𝕄)) = bigSep Finset.univ fun c : Dev nD => payToks c := by
  have e (c : Dev nD) : (payToks c : sProp 𝕄) = iprop((bigSep Finset.univ fun k : Fin 7 => dutyTok ER (barCell (dn k c)) 0 k)
      ∗ (bigSep Finset.univ fun k : Fin 7 => dutyTok ER (sndCell c k) 0 k) ∗ bigSep Finset.univ fun k : Fin 7 => dutyTok ER (rcvCell (dn k c) k) 0 k) := by
    unfold payToks tokA; rw [bigSep_sep']
  rw [bigSep_congr fun c _ => toks_split (F := F) c, bigSep_congr fun c _ => e c, bigSep_sep', bigSep_sep', bigSep_sep', bigSep_sep',
    around fun c k => dutyTok ER (barCell c) 0 k, around fun c k => dutyTok ER (rcvCell c k) 0 k]

theorem regroup :
    (bigSep Finset.univ fun c : Dev nD => iprop((bigSep Finset.univ fun ck : CK => iprop(∃ κ : ℕ, cellInv ER (exRd m) κ (kcell (c, ck))))
          ∗ (bigSep Finset.univ fun ck : CK => iprop(atPos ER (kcell (c, ck)) 0 ∅ 0 ∗ reached ER (kcell (c, ck)) 0)) ∗ toks c) : sProp 𝕄)
      ⊢ bigSep Finset.univ (G' m) := by
  rw [bigSep_sep', bigSep_sep', ← bigSep_univ_prod (fun ck : Dev nD × CK => iprop(∃ κ : ℕ, cellInv ER (exRd m) κ (kcell ck))),
    bigSep_congr (s := Finset.univ) (fun (c : Dev nD) _ => bigSep_sep' Finset.univ (fun ck : CK => (atPos ER (kcell (c, ck)) 0 ∅ 0 : sProp 𝕄)) (fun ck => reached ER (kcell (c, ck)) 0)),
    bigSep_sep', ← bigSep_univ_prod (fun ck : Dev nD × CK => (reached ER (kcell ck) 0 : sProp 𝕄)), toks_around]
  iintro ⟨HI, ⟨Hat, HR⟩, Htok⟩
  ihave HK := (BI.bigSep_exists_pi Finset.univ (fun (ck : Dev nD × CK) (κ : ℕ) => (cellInv ER (exRd m) κ (kcell ck) : sProp 𝕄))) $$ HI
  icases HK with ⟨%K, HI⟩
  iapply (bigSep_with_persistent (R := shared m K) (Φ := linear (F := F)) fun c _ => show iprop(shared m K ∗ linear c) ⊢ G' m c by
    unfold G'; iintro H; iexists K; iexact H)
  isplitl [HI HR]
  · unfold shared
    iapply (Entails.of_eq (bigSep_sep' Finset.univ (fun ck : Dev nD × CK => (cellInv ER (exRd m) (K ck) (kcell ck) : sProp 𝕄)) fun ck => reached ER (kcell ck) 0).symm)
    isplitl [HI]; · iexact HI
    iexact HR
  · iapply (Entails.of_eq (bigSep_sep' Finset.univ (fun c : Dev nD => bigSep Finset.univ fun ck : CK => (atPos ER (kcell (c, ck)) 0 ∅ 0 : sProp 𝕄)) payToks).symm)
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits at launch -/

/-- What all devices owe one cell, each at distance `k + 1` owing `w` to the cell `g (dn k d) k` and all `g` different. -/
theorem owed_sum (g : Dev nD → Fin 7 → GSem nD τ sig) (w : ℕ) (a : GSem nD τ sig) :
    ∑ d : Dev nD, (∑ k ∈ left 0, tallyAt (g (dn k d) k) () w : CellTallies nD τ sig Unit) a ()
      = ∑ k : Fin 7, ∑ d : Dev nD, if a = g d k then w else 0 := by
  rw [left_zero, Finset.sum_congr rfl fun d _ => sum_tally_apply _ _ _ _, Finset.sum_comm]
  refine Finset.sum_congr rfl fun k _ => ?_
  rw [← (turn k).sum_comp fun d => if a = g d k then w else 0]
  refine Finset.sum_congr rfl fun d _ => ?_
  rw [tallyAt_apply]
  exact if_congr (by simp only [and_true]; rfl) rfl rfl

theorem bar_ne_rcv (c d : Dev nD) (k : Fin 7) : barCell c ≠ rcvCell d k := fun h => nomatch congrArg Prod.snd h
theorem bar_inj {c d : Dev nD} (h : barCell c = barCell d) : c = d := congrArg (fun g : GSem nD τ sig => g.1.1) h
theorem rcv_inj {c d : Dev nD} {k k' : Fin 7} (h : rcvCell c k = rcvCell d k') : c = d ∧ k = k' := by
  refine ⟨congrArg (fun g : GSem nD τ sig => g.1.1) h, ?_⟩
  have h2 := dsem_injective (SemLoc.dma.inj (congrArg Prod.snd h))
  exact Fin.succ_injective _ (congrArg Prod.snd h2)

theorem owed (a : GSem nD τ sig) : ∑ d : Dev nD, O₀ d a ()
    = (∑ k : Fin 7, ∑ d : Dev nD, if a = rcvCell d k then N else 0) + ∑ k : Fin 7, ∑ d : Dev nD, if a = barCell d then 1 else 0 := by
  unfold O₀ Orcv Obar
  rw [Finset.sum_congr rfl fun d _ => by rw [Pi.add_apply, Finsupp.add_apply], Finset.sum_add_distrib, owed_sum rcvCell N a, owed_sum (fun d _ => barCell d) 1 a]

theorem credit_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, owed,
    Finset.sum_eq_zero fun k _ => Finset.sum_eq_zero fun d _ => if_neg (bar_ne_rcv c d k), Nat.zero_add,
    Finset.sum_congr rfl fun k _ => Finset.sum_eq_single c (fun d _ h => if_neg fun e => h (bar_inj e).symm) fun h => absurd (Finset.mem_univ c) h,
    if_pos rfl]
  rfl
theorem credit_rcv (c : Dev nD) (k : Fin 7) :
    tallyOn (rcvCell c k) (launchCredit (Pipeline.owing O₀) 0 (rcvCell c k)) = (tallyAt (rcvCell c k) () N : CellTallies nD τ sig Unit) := by
  unfold tallyAt; refine congrArg _ (Finsupp.ext fun u => ?_); cases u
  rw [Pipeline.launchCredit_owing, Finsupp.single_eq_same, owed,
    Finset.sum_eq_zero (f := fun k' : Fin 7 => ∑ d : Dev nD, if rcvCell c k = barCell d then 1 else 0) fun k' _ => Finset.sum_eq_zero fun d _ => if_neg fun e => bar_ne_rcv d c k e.symm,
    Nat.add_zero,
    Finset.sum_eq_single k (fun k' _ h => Finset.sum_eq_zero fun d _ => if_neg fun e => h (rcv_inj e).2.symm) fun h => absurd (Finset.mem_univ k) h,
    Finset.sum_eq_single c (fun d _ h => if_neg fun e => h (rcv_inj e).1.symm) fun h => absurd (Finset.mem_univ c) h, if_pos rfl]

omit [FloatOps F] in
theorem creds (c : Dev nD) :
    (Pipeline.launchCred O₀ c : sProp 𝕄) ⊢ iprop(cred (tallyAt (barCell c) () 7) ∗ bigSep Finset.univ fun k => cred (tallyAt (rcvCell c k) () N)) := by
  have hinj : Function.Injective fun k : Fin 7 => (SemLoc.dma (rcvS k) : SemLoc sig) := fun k k' h =>
    Fin.succ_injective _ (congrArg Prod.snd (dsem_injective (SemLoc.dma.inj h)))
  unfold Pipeline.launchCred
  rw [bigSep_univ_at _ (SemLoc.reg barS), credit_bar]
  refine sep_mono_right (BIBase.Entails.trans (bigSep_subset (t := Finset.univ.map ⟨_, hinj⟩) fun s hs => ?_) (Entails.of_eq ?_))
  · obtain ⟨k, -, rfl⟩ := Finset.mem_map.mp hs
    exact Finset.mem_erase.mpr ⟨fun h => (nomatch h), Finset.mem_univ _⟩
  · rw [bigSep_map]
    exact bigSep_congr fun k _ => congrArg cred (credit_rcv c k)

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H7, HN⟩
  imodintro
  unfold start
  isplitl
  · isplitl [HG]; · iexact HG
    isplitl [H7]; · iexact H7
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ pts
  iintro ⟨Hs, -, Hr⟩
  isplitl [Hs] <;> iassumption

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ m c from rfl, scopedRest0_eq, unscoped_eq]
  unfold Φ₁ pts Pipeline.ownSems0
  iintro ⟨Hr, Ho, Hb⟩
  isplitl [Hb]; · iexact Hb
  isplitl [Ho]; · iexact Ho
  iexists (comm m); iexact Hr

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_low c _ (by fin_cases w <;> fin_cases s <;> decide)
    · exact BIBase.Entails.trans (show (levAts L lv : sProp 𝕄) ⊢ BI.emp by iintro -; iempintro) (Entails.of_eq (MayWait_zero _ _ _).symm)

/-- The final arrays, -/
def finalA (c : Dev nD) (w : Fin cfg0.W) : Buf (Elt F) ((cfg0.win w).arr.view.loc (c : Thread nD τ)) := (dats m 0 c).arrAt w cfg0.N
/-- and that a state holds them. -/
def Final : PUnit × MemSt nD τ sig (Elt F) → Prop := fun r =>
  ∀ c : Dev nD, ∀ w : Fin cfg0.W, r.2.mem ((cfg0.win w).arr.view.loc (c : Thread nD τ)) = finalA m c w

set_option maxRecDepth 8000 in
/-- For any float values, from any memory with every counter zero: every weakly fair execution of the eight devices' programs
    ends, with the final arrays in place and every counter zero again. -/
theorem run_main : θ_run defs (onTc (τ := τ) (main (F := F))) ⟨m, fun _ => 0, ρ⟩ (fun r => Final m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ex m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Exchange

end
-- ==== Proof.Final.lean ====
/-
# What a run leaves in the arrays

The one grid point's blocks are the whole arrays, so what is staged in is the argument and what is flushed is the result:
the arguments stay, and the result array ends at `value`, the kernel's arithmetic over every device's block of `x` and the
device's own other arguments.
-/
module

public import proofs.«01_k».proof.Proof.Launch

@[expose] public section

noncomputable section

namespace Cert.Exchange

open Cert.KernelIdeal Cert.KernelIdeal.Gen

open Idealize.ShloMosaic
open Idealize.ShloMosaic.TcCoe
open Idealize.SL Idealize.SL.Sem

variable {F : FTy → Type} [FloatOps F]

variable (m : (ℓ : Loc nD τ sig) → Buf (Elt F) ℓ) (ρ : Dev nD → PrngReg)

/-- What the kernel computes from a device's blocks, given every device's block `x` of the activations. -/
def value (x : Dev nD → Vec F S4x1024x256 .f32) (t : Vec F S4x128 .f32) (a b : Vec F S128x256 .f32) (c : Dev nD) : FVec F S4x1024x256 .f32 :=
  k0_pay5 (k0_pay1 (x c)) (k0_pay3 t a) (k0_pay4 t b) fun i => k0_pay2 (x (show Dev nD from i 0)) (inSlot i)

theorem xs_eq (c : Dev nD) : xs m c = m ((c : Thread nD τ).loc main_arg0) :=
  Memref.read_access_unit_zero (Elt F) main_arg0 (funext fun a => by fin_cases a <;> decide) (fun a => by fin_cases a <;> decide) _
theorem ts_eq (c : Dev nD) : ts m c = m ((c : Thread nD τ).loc main_arg1) :=
  Memref.read_access_unit_zero (Elt F) main_arg1 (funext fun a => by fin_cases a <;> decide) (fun a => by fin_cases a <;> decide) _
theorem wa_eq (c : Dev nD) : wa m c = m ((c : Thread nD τ).loc main_arg2) :=
  Memref.read_access_unit_zero (Elt F) main_arg2 (funext fun a => by fin_cases a <;> decide) (fun a => by fin_cases a <;> decide) _
theorem wb_eq (c : Dev nD) : wb m c = m ((c : Thread nD τ).loc main_arg3) :=
  Memref.read_access_unit_zero (Elt F) main_arg3 (funext fun a => by fin_cases a <;> decide) (fun a => by fin_cases a <;> decide) _

theorem outAt_eq (c : Dev nD) : outAt m c = value (fun d => m ((d : Thread nD τ).loc main_arg0)) (m ((c : Thread nD τ).loc main_arg1))
    (m ((c : Thread nD τ).loc main_arg2)) (m ((c : Thread nD τ).loc main_arg3)) c := by
  unfold outAt value
  rw [xs_eq, ts_eq, wa_eq, wb_eq]
  congr 1
  funext i
  unfold comm; rw [xs_eq]

/-- The block flushed at the one point is the whole result array. -/
theorem final_out (c : Dev nD) : finalA m c (4 : Fin 5) = outAt m c := by
  have h : (win0_4.blk (0 : Fin 1)).view.read (Elt F) (finalA m c (4 : Fin 5)) = outAt m c := by
    unfold finalA
    rw [show cfg0.N = ((0 : Fin 1) : Fin cfg0.N).val + 1 from rfl, (dats m 0 c).arrAt_succ (4 : Fin 5) (0 : Fin 1),
      show (cfg0.win (4 : Fin 5)).flush (0 : Fin 1) = true from by decide, if_pos rfl]
    exact View.read_write_univ _ _
  exact (Memref.read_access_unit_zero (Elt F) main_v1 (funext fun a => by fin_cases a <;> decide) (fun a => by fin_cases a <;> decide) _).symm.trans h

/-- The whole run, read at the arguments, the result and the counters. -/
theorem run : θ_run defs (onTc (τ := τ) (main (F := F))) ⟨m, fun _ => 0, ρ⟩ (fun r => (∀ c : Dev nD,
      r.2.mem ((c : Thread nD τ).loc main_v1) = value (fun d => m ((d : Thread nD τ).loc main_arg0)) (m ((c : Thread nD τ).loc main_arg1))
          (m ((c : Thread nD τ).loc main_arg2)) (m ((c : Thread nD τ).loc main_arg3)) c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
      ∧ r.2.sem = fun _ => 0) :=
  (θ_run defs _ _).mono (fun _ h => ⟨fun c => ⟨(h.1 c (4 : Fin 5)).trans ((final_out m c).trans (outAt_eq m c)),
      (h.1 c (0 : Fin 5)).trans ((dats m 0 c).arrAt_in (0 : Fin 5) rfl _),
      (h.1 c (1 : Fin 5)).trans ((dats m 0 c).arrAt_in (1 : Fin 5) rfl _),
      (h.1 c (2 : Fin 5)).trans ((dats m 0 c).arrAt_in (2 : Fin 5) rfl _),
      (h.1 c (3 : Fin 5)).trans ((dats m 0 c).arrAt_in (3 : Fin 5) rfl _)⟩, h.2⟩) (run_main m ρ)

/-- The frame alone: the arguments as they were, every counter zero. -/
theorem frame : θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
      ∧ r.2.sem = fun _ => 0) :=
  (θ_run defs _ _).mono (fun _ h => ⟨fun c => (h.1 c).2, h.2⟩) (run m ρ)

end Cert.Exchange

end
-- ==== Proof.Values.lean ====
/-
# Both programs' values, entry by entry

At the extended reals: what the kernel and the reference compute at one entry, as sums over the channels and over the
embedding's axis.
-/
module

public import proofs.«01_k».proof.Proof.Final
public import proofs.«01_k».proof.Proof.Gen.ReferenceIdeal.Run
public import Idealize.ShloMosaic.Lib.Pointwise

@[expose] public section

noncomputable section

namespace Cert.Agree

open Idealize.ShloMosaic
open scoped BigOperators

/-- The embedding's product with one column of a weight matrix. -/
def column {n : ℕ} (t : FVec Ideal ⟨2, ![4, 128]⟩ .f32) (w : FVec Ideal ⟨2, ![128, n]⟩ .f32) (b : Fin 4) (j : Fin n) : EReal :=
  ∑ k : Fin 128, t (ix2 b k) * w (ix2 k j)

section Kernel
open Cert.KernelIdeal Cert.KernelIdeal.Gen Cert.Exchange

variable (x : Dev nD → Vec Ideal S4x1024x256 .f32) (t : Vec Ideal S4x128 .f32) (a w : Vec Ideal S128x256 .f32)

/-- The sum of `f` over every device's channels of a row, times the kernel's literal for 1/2048. -/
def pooled (f : EReal → EReal) (b : Fin 4) (s : Fin 1024) : EReal :=
  (∑ d : Fin 8, ∑ j : Fin 256, f (x d (ix3 b s j))) * Ideal.ofBits .f32 0x3A000000#32

/-- The first four rows of a device's statistics are its sums, -/
theorem stats_sum (y : Vec Ideal S4x1024x256 .f32) (d : Fin 8) (b : Fin 4) (s : Fin 1024) (h : b.val < 8) :
    k0_pay2 y (inSlot (ix3 d ⟨b.val, h⟩ s)) = ∑ j : Fin 256, y (ix3 b s j) := by
  pointwise [k0_pay2, k0_pay1]
  exact dif_pos b.isLt
/-- the last four its sums of squares. -/
theorem stats_squares (y : Vec Ideal S4x1024x256 .f32) (d : Fin 8) (b : Fin 4) (s : Fin 1024) (h : 4 + b.val < 8) :
    k0_pay2 y (inSlot (ix3 d ⟨4 + b.val, h⟩ s)) = ∑ j : Fin 256, y (ix3 b s j) * y (ix3 b s j) := by
  pointwise [k0_pay2, k0_pay1]
  refine (dif_neg (show ¬ 4 + b.val < 4 by omega)).trans ?_
  have e (h' : 4 + b.val - 4 < 4) : (⟨4 + b.val - 4, h'⟩ : Fin 4) = b := Fin.ext (by show 4 + b.val - 4 = b.val; omega)
  exact Finset.sum_congr rfl fun j _ => congrArg (fun i : Fin 4 => y (ix3 i s j) * y (ix3 i s j)) (e _)

theorem value_at (c : Dev nD) (b : Fin 4) (s : Fin 1024) (j : Fin 256) :
    value x t a w c (ix3 b s j) = (x c (ix3 b s j) - pooled x id b s)
        * Ideal.rsqrt (pooled x (fun y => y * y) b s - pooled x id b s * pooled x id b s + Ideal.ofBits .f32 0x3727C5AC#32)
        * (1 + column t a b j) + column t w b j := by
  pointwise [value, k0_pay5, k0_pay4, k0_pay3, k0_pay1, pooled, column]
  simp only [show ∀ d : Fin 8, _ from fun d => stats_sum (x d) d b s, show ∀ d : Fin 8, _ from fun d => stats_squares (x d) d b s, id]

end Kernel

section Reference
open Cert.ReferenceIdeal Cert.ReferenceIdeal.Gen

variable (x : FVec Ideal S4x1024x2048 .f32) (t : FVec Ideal S4x128 .f32) (a w : FVec Ideal S128x2048 .f32)

/-- The reference's mean of each row, -/
def refMean : FVec Ideal S4x1024x1 .f32 :=
  Host.divf (broadcastInDim S4x1024x1 ![0, 1] bcast_S4x1024_S4x1024x1_0_1 (Host.reduceAdd x (constant S_ .f32 0x00000000#32) reducesTo_S4x1024x2048_S4x1024_d2 h_S_))
    (broadcastInDim S4x1024x1 ![] bcast_S_S4x1024x1 (constant S_ .f32 0x45000000#32))
/-- the rows without their means, -/
def refCentred : FVec Ideal S4x1024x2048 .f32 :=
  subf x (broadcastInDim S4x1024x2048 ![0, 1, 2] bcast_S4x1024x1_S4x1024x2048_0_1_2 (refMean x))
/-- each row's variance, -/
def refVar : FVec Ideal S4x1024x1 .f32 :=
  select (broadcastInDim S4x1024x1 ![] bcast_S_S4x1024x1 (cmpf .ogt (subf (constant (F := Ideal) S_ .f32 0x45000000#32) (sitofp .f32 (constantI S_ 32 0#32))) (constant S_ .f32 0x00000000#32)))
    (Host.divf (broadcastInDim S4x1024x1 ![0, 1] bcast_S4x1024_S4x1024x1_0_1 (Host.reduceAdd (mulf (refCentred x) (refCentred x)) (constant S_ .f32 0x00000000#32) reducesTo_S4x1024x2048_S4x1024_d2 h_S_))
      (broadcastInDim S4x1024x1 ![] bcast_S_S4x1024x1 (subf (constant S_ .f32 0x45000000#32) (sitofp .f32 (constantI S_ 32 0#32)))))
    (broadcastInDim S4x1024x1 ![] bcast_S_S4x1024x1 (id (constant S_ .f32 0x7FC00000#32)))
/-- and its result. -/
def refValue : FVec Ideal S4x1024x2048 .f32 :=
  addf (mulf (Host.divf (refCentred x) (broadcastInDim S4x1024x2048 ![0, 1, 2] bcast_S4x1024x1_S4x1024x2048_0_1_2
        (Host.sqrt (addf (refVar x) (broadcastInDim S4x1024x1 ![] bcast_S_S4x1024x1 (constant S_ .f32 0x3727C5AC#32))))))
      (broadcastInDim S4x1024x2048 ![0, 1, 2] bcast_S4x1x2048_S4x1024x2048_0_1_2 (addf (broadcastInDim S4x1x2048 ![] bcast_S_S4x1x2048 (constant S_ .f32 0x3F800000#32))
        (broadcastInDim S4x1x2048 ![0, 2] bcast_S4x2048_S4x1x2048_0_2 (Host.dotGeneral dot_S4x128_S128x2048_S4x2048_1_0_0_1_n_n none t a)))))
    (broadcastInDim S4x1024x2048 ![0, 1, 2] bcast_S4x1x2048_S4x1024x2048_0_1_2
      (broadcastInDim S4x1x2048 ![0, 2] bcast_S4x2048_S4x1x2048_0_2 (Host.dotGeneral dot_S4x128_S128x2048_S4x2048_1_0_0_1_n_n none t w)))

theorem refMean_at (b : Fin 4) (s : Fin 1024) (z : Fin 1) :
    refMean x (ix3 b s z) = Ideal.div (∑ k : Fin 2048, x (ix3 b s k)) (Ideal.ofBits .f32 0x45000000#32) := by
  pointwise [refMean]

theorem refVar_at (b : Fin 4) (s : Fin 1024) (z : Fin 1) (hn : 0 < Ideal.ofBits .f32 0x45000000#32) :
    refVar x (ix3 b s z) = Ideal.div (∑ k : Fin 2048, (x (ix3 b s k) - refMean x (ix3 b s 0)) * (x (ix3 b s k) - refMean x (ix3 b s 0)))
      (Ideal.ofBits .f32 0x45000000#32) := by
  pointwise [refVar, refCentred]
  rw [show (FloatOps.sitofp .f32 (0#32 : BitVec 32) : Ideal .f32) = (0 : EReal) by simp [FloatOps.sitofp], sub_zero, if_pos hn]

theorem refValue_at (b : Fin 4) (s : Fin 1024) (j : Fin 2048) :
    refValue x t a w (ix3 b s j) = Ideal.div (x (ix3 b s j) - refMean x (ix3 b s 0)) (Ideal.sqrt (refVar x (ix3 b s 0) + Ideal.ofBits .f32 0x3727C5AC#32))
        * (1 + column t a b j) + column t w b j := by
  pointwise [refValue, refCentred, column]

end Reference

end Cert.Agree

end
-- ==== Proof.Agree.lean ====
/-
# The two values agree

Where `x` is finite, a row's moments are real numbers: the mean of the squares less the square of the mean is the mean of
the squared differences, so it isn't negative, and what is added to it makes it positive; dividing by its root is then
multiplying by the root's inverse. The sum over eight devices of their 256 channels is the sum over all 2048.
-/
module

public import proofs.«01_k».proof.Proof.Values

@[expose] public section

noncomputable section

namespace Cert.Agree

open Idealize.ShloMosaic
open scoped BigOperators

/-! ## The literals -/

theorem share_literal : Ideal.ofBits .f32 0x3A000000#32 = ((1 / 2048 : ℝ) : EReal) := by
  simp [Ideal.ofBits, Ideal.ieee, -EReal.coe_mul]; norm_num
theorem count_literal : Ideal.ofBits .f32 0x45000000#32 = ((2048 : ℝ) : EReal) := by
  simp [Ideal.ofBits, Ideal.ieee, -EReal.coe_mul]; norm_num
theorem eps_literal : ∃ e : ℝ, 0 < e ∧ Ideal.ofBits .f32 0x3727C5AC#32 = (e : EReal) :=
  ⟨10995116 / 2 ^ 40, by norm_num, by simp [Ideal.ofBits, Ideal.ieee, -EReal.coe_mul]; norm_num⟩

theorem top_literal : Ideal.ofBits .f32 0x7F800000#32 = (⊤ : EReal) := by
  simp [Ideal.ofBits, Ideal.ieee]

/-- What passes the test of the precondition is a real number. -/
theorem real_of_test {y : EReal} (h : Ideal.cmp .olt (max y (-y)) (Ideal.ofBits .f32 0x7F800000#32) = 1#1) : ∃ r : ℝ, y = r := by
  have hlt : max y (-y) < (⊤ : EReal) := by
    by_contra hn
    rw [top_literal, show Ideal.cmp .olt (max y (-y)) ⊤ = BitVec.ofBool (decide (max y (-y) < ⊤)) from rfl, decide_eq_false hn] at h
    exact absurd h (by decide)
  induction y with
  | bot => simp at hlt
  | coe r => exact ⟨r, rfl⟩
  | top => simp at hlt

/-! ## Real rows -/

theorem coe_sum {n : ℕ} (r : Fin n → ℝ) : ∑ k, (r k : EReal) = ((∑ k, r k : ℝ) : EReal) := by
  induction (Finset.univ : Finset (Fin n)) using Finset.induction_on with
  | empty => simp
  | insert a S ha ih => rw [Finset.sum_insert ha, Finset.sum_insert ha, ih, EReal.coe_add]

/-- The mean of the squares less the square of the mean is the mean of the squared differences from the mean. -/
theorem variance (r : Fin 2048 → ℝ) :
    (∑ k, r k * r k) * (1 / 2048) - (∑ k, r k) * (1 / 2048) * ((∑ k, r k) * (1 / 2048))
      = (∑ k, (r k - (∑ k, r k) * (1 / 2048)) * (r k - (∑ k, r k) * (1 / 2048))) * (1 / 2048) := by
  generalize hμ : (∑ k, r k) * (1 / 2048) = μ
  have e : ∀ k, (r k - μ) * (r k - μ) = r k * r k - r k * (2 * μ) + μ * μ := fun k => by ring
  simp only [e, Finset.sum_add_distrib, Finset.sum_sub_distrib, ← Finset.sum_mul, Finset.sum_const, Finset.card_univ, Fintype.card_fin, nsmul_eq_mul]
  rw [show ∑ k, r k = μ * 2048 by rw [← hμ]; ring]
  push_cast; ring

/-- Multiplying by the inverse root, or dividing by the root, of a positive real. -/
theorem mul_rsqrt (y : EReal) {v : ℝ} (hv : 0 < v) : y * Ideal.rsqrt (v : EReal) = Ideal.div y (Ideal.sqrt (v : EReal)) := by
  rw [Ideal.rsqrt_coe, Ideal.sqrt_coe, if_neg hv.not_gt, if_neg hv.ne', if_neg hv.not_gt, Ideal.div_coe (Real.sqrt_pos.2 hv).ne', one_div]

/-- One entry of a row of finite numbers, normalised both ways. -/
theorem normalise (r : Fin 2048 → ℝ) (y : EReal) :
    (y - (∑ k, (r k : EReal)) * Ideal.ofBits .f32 0x3A000000#32)
      * Ideal.rsqrt ((∑ k, (r k : EReal) * (r k : EReal)) * Ideal.ofBits .f32 0x3A000000#32
          - (∑ k, (r k : EReal)) * Ideal.ofBits .f32 0x3A000000#32 * ((∑ k, (r k : EReal)) * Ideal.ofBits .f32 0x3A000000#32)
          + Ideal.ofBits .f32 0x3727C5AC#32)
    = Ideal.div (y - Ideal.div (∑ k, (r k : EReal)) (Ideal.ofBits .f32 0x45000000#32))
      (Ideal.sqrt (Ideal.div (∑ k, ((r k : EReal) - Ideal.div (∑ k, (r k : EReal)) (Ideal.ofBits .f32 0x45000000#32))
            * ((r k : EReal) - Ideal.div (∑ k, (r k : EReal)) (Ideal.ofBits .f32 0x45000000#32))) (Ideal.ofBits .f32 0x45000000#32)
          + Ideal.ofBits .f32 0x3727C5AC#32)) := by
  obtain ⟨e, he, hw⟩ := eps_literal
  have h0 : (2048 : ℝ) ≠ 0 := by norm_num
  simp only [hw, share_literal, count_literal, Ideal.div_coe h0, coe_sum, ← EReal.coe_mul, ← EReal.coe_sub, ← EReal.coe_add]
  rw [variance]
  exact mul_rsqrt _ (add_pos_of_nonneg_of_pos (mul_nonneg (Finset.sum_nonneg fun k _ => mul_self_nonneg _) (by norm_num)) he)

/-! ## The channels, cut in eight -/

/-- Channel `j` of device `d`, among all. -/
def chan (d : Fin 8) (j : Fin 256) : Fin 2048 := ⟨d.val * 256 + j.val, by omega⟩

theorem sum_chan (f : Fin 2048 → EReal) : ∑ d : Fin 8, ∑ j : Fin 256, f (chan d j) = ∑ k, f k := by
  rw [← Fintype.sum_prod_type', ← Equiv.sum_comp (finProdFinEquiv (m := 8) (n := 256)) f]
  exact Finset.sum_congr rfl fun p _ => congrArg f (Fin.ext (by show p.1.val * 256 + p.2.val = p.2.val + 256 * p.1.val; omega))

section
variable (X : FVec Ideal ⟨3, ![4, 1024, 2048]⟩ .f32) (t : FVec Ideal ⟨2, ![4, 128]⟩ .f32) (A W : FVec Ideal ⟨2, ![128, 2048]⟩ .f32)

/-- Device `d`'s block of the activations, and of a weight matrix. -/
def xPart (d : Fin 8) : FVec Ideal ⟨3, ![4, 1024, 256]⟩ .f32 := Layout.block ⟨3, ![4, 1024, 256]⟩ ⟨3, ![4, 1024, 2048]⟩ 2 8 d X
def wPart (d : Fin 8) : FVec Ideal ⟨2, ![128, 256]⟩ .f32 := Layout.block ⟨2, ![128, 256]⟩ ⟨2, ![128, 2048]⟩ 1 8 d A

theorem xPart_at (d : Fin 8) (b : Fin 4) (s : Fin 1024) (j : Fin 256) : xPart X d (ix3 b s j) = X (ix3 b s (chan d j)) :=
  congrArg X (funext fun a => Fin.ext (by match a with | ⟨0, _⟩ => rfl | ⟨1, _⟩ => rfl | ⟨2, _⟩ => rfl))
theorem wPart_at (d : Fin 8) (k : Fin 128) (j : Fin 256) : wPart A d (ix2 k j) = A (ix2 k (chan d j)) :=
  congrArg A (funext fun a => Fin.ext (by match a with | ⟨0, _⟩ => rfl | ⟨1, _⟩ => rfl))

theorem column_part (d : Fin 8) (b : Fin 4) (j : Fin 256) : column t (wPart A d) b j = column t A b (chan d j) :=
  Finset.sum_congr rfl fun k _ => by rw [wPart_at]

theorem pooled_part (f : EReal → EReal) (b : Fin 4) (s : Fin 1024) :
    pooled (xPart X) f b s = (∑ k : Fin 2048, f (X (ix3 b s k))) * Ideal.ofBits .f32 0x3A000000#32 := by
  unfold pooled
  simp only [xPart_at]
  rw [sum_chan fun k => f (X (ix3 b s k))]

/-- Whole activations whose every block is real are real. -/
theorem real_of_parts (h : ∀ d i, ∃ r : ℝ, xPart X d i = r) (i : Shape.Idx ⟨3, ![4, 1024, 2048]⟩) : ∃ r : ℝ, X i = r := by
  have hk : (i 2).val < 2048 := (i 2).isLt
  obtain ⟨r, hr⟩ := h ⟨(i 2).val / 256, by omega⟩ (ix3 (i 0) (i 1) ⟨(i 2).val % 256, by omega⟩)
  refine ⟨r, Eq.trans ?_ ((xPart_at X _ _ _ _).symm.trans hr)⟩
  refine congrArg X (funext fun a => ?_)
  match a with
  | ⟨0, _⟩ => rfl
  | ⟨1, _⟩ => rfl
  | ⟨2, _⟩ => exact Fin.ext (by show (i 2).val = (i 2).val / 256 * 256 + (i 2).val % 256; omega)

/-- Each device's value is its block of the reference's. -/
theorem value_eq (hX : ∀ i, ∃ r : ℝ, X i = r) (c : Fin 8) :
    Exchange.value (xPart X) t (wPart A c) (wPart W c) c = xPart (refValue X t A W) c := by
  funext i
  obtain ⟨b, s, j, rfl⟩ : ∃ (b : Fin 4) (s : Fin 1024) (j : Fin 256), i = ix3 b s j := ⟨i 0, i 1, i 2, by
    funext a; match a with | ⟨0, _⟩ => rfl | ⟨1, _⟩ => rfl | ⟨2, _⟩ => rfl⟩
  choose r hr using fun k : Fin 2048 => hX (ix3 b s k)
  have hn : (0 : EReal) < Ideal.ofBits .f32 0x45000000#32 := by rw [count_literal]; exact_mod_cast (by norm_num : (0 : ℝ) < 2048)
  rw [value_at, xPart_at (refValue X t A W), refValue_at, refVar_at _ _ _ _ hn, refMean_at, column_part, column_part, pooled_part, pooled_part, xPart_at]
  simp only [hr, id]
  rw [normalise]

end

end Cert.Agree

end
-- ==== Proof.lean ====
/- `Cert.Claim` (proofs.«01_k».proof.Defs): the frames of the kernel at float words and at the reals, of the reference, the
   idealization's steps, and that each device's result is its block of the reference's. The runs are `Proof.Final` (kernel)
   and `Proof.Gen.ReferenceIdeal.Run` (reference); that the two values agree is `Proof.Agree`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_x_is_finite_KernelIdeal
public import proofs.«01_k».proof.Proof.Gen.Pre_x_is_finite_ReferenceIdeal
public import proofs.«01_k».proof.Proof.Final
public import proofs.«01_k».proof.Proof.Agree
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel's table of bodies is the idealized kernel's: the two texts agree label by label. -/
theorem defs₀_eq : @Cert.Kernel.defs₀ Bits _ _ = @Cert.KernelIdeal.defs₀ Bits _ _ := by
  unfold Cert.Kernel.defs₀ Cert.KernelIdeal.defs₀
  refine congrArg Defs.onTc (funext fun l => funext fun a => ?_)
  match l, a with
  | 0, (_, _) => rfl
theorem defs_eq : @Cert.Kernel.defs Bits _ _ = @Cert.KernelIdeal.defs Bits _ _ :=
  congrArg (Pipeline.defs (Cert.KernelIdeal.pcfgs (F := Bits))) defs₀_eq

theorem frame_kernel : Cert.quiescent_Kernel := fun m ρ _ => by
  have h := Cert.Exchange.frame (F := Bits) m ρ
  rw [← defs_eq] at h
  exact h

theorem frame_kernelIdeal : Cert.quiescent_KernelIdeal := fun m ρ _ => Cert.Exchange.frame (F := Ideal) m ρ

theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Each device ends with its block of the reference's result. -/
theorem algebraic : @Cert.algebraic_KernelIdeal_ReferenceIdeal_pre_x_is_finite_KernelIdeal Cert.KernelIdeal.Gen.facts Cert.ReferenceIdeal.Gen.facts
    Cert.Pre_x_is_finite_KernelIdeal.Gen.facts := fun m g m' g' hpre hargs => by
  refine ⟨Cert.Agree.refValue (m' ((0 : Dev Cert.ReferenceIdeal.nD).tc.loc Cert.ReferenceIdeal.main_arg0)) (m' ((0 : Dev Cert.ReferenceIdeal.nD).tc.loc Cert.ReferenceIdeal.main_arg1))
      (m' ((0 : Dev Cert.ReferenceIdeal.nD).tc.loc Cert.ReferenceIdeal.main_arg2)) (m' ((0 : Dev Cert.ReferenceIdeal.nD).tc.loc Cert.ReferenceIdeal.main_arg3)),
    (θ_run _ _ _).mono (fun r h c => ⟨(h.1 c).1.trans ?_, (h.1 c).2⟩) (Cert.Exchange.run (F := Ideal) m g),
    (θ_run _ _ _).mono (fun r h => h 0) (Cert.ReferenceIdeal.Value.run (F := Ideal) m' g')⟩
  rw [funext fun d => (hargs d).1, (hargs c).2.1, (hargs c).2.2.1, (hargs c).2.2.2]
  refine Cert.Agree.value_eq _ _ _ _ (Cert.Agree.real_of_parts _ fun d i => Cert.Agree.real_of_test ?_) c
  have h := congrFun (hpre d) i
  rw [(hargs d).1] at h
  exact h

theorem claim : Cert.Claim := ⟨Cert.Kernel.Gen.facts, Cert.KernelIdeal.Gen.facts, Cert.ReferenceIdeal.Gen.facts,
  Cert.Pre_x_is_finite_KernelIdeal.Gen.facts, Cert.Pre_x_is_finite_ReferenceIdeal.Gen.facts,
  frame_kernel, frame_kernelIdeal, fun m ρ _ => frame_kernelIdeal m ρ trivial, frame_referenceIdeal,
  fun m ρ _ => frame_referenceIdeal m ρ trivial, trivial, algebraic⟩

end Cert.Proof

end
